-- ==== Defs.lean ====
def Pre_Kernel (m : (ℓ : Loc Cert.Kernel.nD Cert.Kernel.τ Cert.Kernel.sig) → Buf (Elt Bits) ℓ) : Prop :=
  True

def Pre_Kernel_inputs_ok [hPre_inputs_ok : Cert.Pre_inputs_ok.Facts] (m : (ℓ : Loc Cert.Kernel.nD Cert.Kernel.τ Cert.Kernel.sig) → Buf (Elt Bits) ℓ) : Prop :=
  ∀ c : Dev Cert.Kernel.nD,
    (Cert.Pre_inputs_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_inputs_ok [hKernel : Cert.Kernel.Facts] [hPre_inputs_ok : Cert.Pre_inputs_ok.Facts] : Prop :=
  ∀ (m : (ℓ : Loc Cert.Kernel.nD Cert.Kernel.τ Cert.Kernel.sig) → Buf (Elt Bits) ℓ) (g : Dev Cert.Kernel.nD → PrngReg), Pre_Kernel_inputs_ok m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_v220) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_Kernel_pre_inputs_ok (hKernel := hKernel) (hPre_inputs_ok := hPre_inputs_ok)
    ∧ quiescent_KernelIdeal (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal (hKernelIdeal := hKernelIdeal) (hReferenceIdeal := hReferenceIdeal) (hPre_inputs_ok := hPre_inputs_ok)
-- ==== Pre_inputs_ok.lean ====
abbrev S8x49104x80 : Shape := ⟨3, ![8, 49104, 80]⟩
abbrev S8x49104x4 : Shape := ⟨3, ![8, 49104, 4]⟩
abbrev S49104x4 : Shape := ⟨2, ![49104, 4]⟩
abbrev S8x32 : Shape := ⟨2, ![8, 32]⟩
abbrev S8x32x4 : Shape := ⟨3, ![8, 32, 4]⟩
abbrev S_ : Shape := ⟨0, ![]⟩
abbrev S49104x1 : Shape := ⟨2, ![49104, 1]⟩
abbrev S49104 : Shape := ⟨1, ![49104]⟩
abbrev S8x32x1 : Shape := ⟨3, ![8, 32, 1]⟩
abbrev S49104x2 : Shape := ⟨2, ![49104, 2]⟩
abbrev S49104x1x2 : Shape := ⟨3, ![49104, 1, 2]⟩
abbrev S8x32x2 : Shape := ⟨3, ![8, 32, 2]⟩
abbrev S8x1x32x2 : Shape := ⟨4, ![8, 1, 32, 2]⟩
abbrev S1x49104x1x2 : Shape := ⟨4, ![1, 49104, 1, 2]⟩
abbrev S8x49104x32x2 : Shape := ⟨4, ![8, 49104, 32, 2]⟩
abbrev S8x49104x32x1 : Shape := ⟨4, ![8, 49104, 32, 1]⟩
abbrev S8x49104x32 : Shape := ⟨3, ![8, 49104, 32]⟩
abbrev S8x1x32 : Shape := ⟨3, ![8, 1, 32]⟩
abbrev S1x49104x1 : Shape := ⟨3, ![1, 49104, 1]⟩
abbrev S8x49104 : Shape := ⟨2, ![8, 49104]⟩
abbrev S8x49104x1 : Shape := ⟨3, ![8, 49104, 1]⟩

class Facts : Prop where
  bcast_S_S8x49104x80 : S_.BroadcastsInDim S8x49104x80 (![] : Fin 0 → Fin S8x49104x80.rank)
  bcast_S_S8x32 : S_.BroadcastsInDim S8x32 (![] : Fin 0 → Fin S8x32.rank)
  slices_S49104x4_S49104x1_0_2 : S49104x4.Slices ![0, 2] S49104x1
  shapeCasts_S49104x1_S49104 : S49104x1.ShapeCasts S49104
  slices_S49104x4_S49104x1_0_0 : S49104x4.Slices ![0, 0] S49104x1
  slices_S49104x4_S49104x1_0_3 : S49104x4.Slices ![0, 3] S49104x1
  slices_S49104x4_S49104x1_0_1 : S49104x4.Slices ![0, 1] S49104x1
  slices_S8x32x4_S8x32x1_0_0_2 : S8x32x4.Slices ![0, 0, 2] S8x32x1
  shapeCasts_S8x32x1_S8x32 : S8x32x1.ShapeCasts S8x32
  slices_S8x32x4_S8x32x1_0_0_0 : S8x32x4.Slices ![0, 0, 0] S8x32x1
  slices_S8x32x4_S8x32x1_0_0_3 : S8x32x4.Slices ![0, 0, 3] S8x32x1
  slices_S8x32x4_S8x32x1_0_0_1 : S8x32x4.Slices ![0, 0, 1] S8x32x1
  slices_S49104x4_S49104x2_0_0 : S49104x4.Slices ![0, 0] S49104x2
  bcast_S49104x2_S49104x1x2_0_2 : S49104x2.BroadcastsInDim S49104x1x2 (![0, 2] : Fin 2 → Fin S49104x1x2.rank)
  slices_S8x32x4_S8x32x2_0_0_0 : S8x32x4.Slices ![0, 0, 0] S8x32x2
  bcast_S8x32x2_S8x1x32x2_0_2_3 : S8x32x2.BroadcastsInDim S8x1x32x2 (![0, 2, 3] : Fin 3 → Fin S8x1x32x2.rank)
  bcast_S49104x1x2_S1x49104x1x2_1_2_3 : S49104x1x2.BroadcastsInDim S1x49104x1x2 (![1, 2, 3] : Fin 3 → Fin S1x49104x1x2.rank)
  bcast_S1x49104x1x2_S8x49104x32x2_0_1_2_3 : S1x49104x1x2.BroadcastsInDim S8x49104x32x2 (![0, 1, 2, 3] : Fin 4 → Fin S8x49104x32x2.rank)
  bcast_S8x1x32x2_S8x49104x32x2_0_1_2_3 : S8x1x32x2.BroadcastsInDim S8x49104x32x2 (![0, 1, 2, 3] : Fin 4 → Fin S8x49104x32x2.rank)
  slices_S49104x4_S49104x2_0_2 : S49104x4.Slices ![0, 2] S49104x2
  slices_S8x32x4_S8x32x2_0_0_2 : S8x32x4.Slices ![0, 0, 2] S8x32x2
  bcast_S_S8x49104x32x2 : S_.BroadcastsInDim S8x49104x32x2 (![] : Fin 0 → Fin S8x49104x32x2.rank)
  slices_S8x49104x32x2_S8x49104x32x1_0_0_0_0 : S8x49104x32x2.Slices ![0, 0, 0, 0] S8x49104x32x1
  shapeCasts_S8x49104x32x1_S8x49104x32 : S8x49104x32x1.ShapeCasts S8x49104x32
  slices_S8x49104x32x2_S8x49104x32x1_0_0_0_1 : S8x49104x32x2.Slices ![0, 0, 0, 1] S8x49104x32x1
  bcast_S49104_S49104x1_0 : S49104.BroadcastsInDim S49104x1 (![0] : Fin 1 → Fin S49104x1.rank)
  bcast_S8x32_S8x1x32_0_2 : S8x32.BroadcastsInDim S8x1x32 (![0, 2] : Fin 2 → Fin S8x1x32.rank)
  bcast_S49104x1_S1x49104x1_1_2 : S49104x1.BroadcastsInDim S1x49104x1 (![1, 2] : Fin 2 → Fin S1x49104x1.rank)
  bcast_S1x49104x1_S8x49104x32_0_1_2 : S1x49104x1.BroadcastsInDim S8x49104x32 (![0, 1, 2] : Fin 3 → Fin S8x49104x32.rank)
  bcast_S8x1x32_S8x49104x32_0_1_2 : S8x1x32.BroadcastsInDim S8x49104x32 (![0, 1, 2] : Fin 3 → Fin S8x49104x32.rank)
  reducesTo_S8x49104x32_S8x49104_d2 : S8x49104x32.ReducesTo [2] S8x49104
  h_S_ : 0 < S_.numel
  bcast_S8x49104_S8x49104x1_0_1 : S8x49104.BroadcastsInDim S8x49104x1 (![0, 1] : Fin 2 → Fin S8x49104x1.rank)
  bcast_S8x49104x1_S8x49104x32_0_1_2 : S8x49104x1.BroadcastsInDim S8x49104x32 (![0, 1, 2] : Fin 3 → Fin S8x49104x32.rank)
  reducesTo_S8x49104x80_S_d0_1_2 : S8x49104x80.ReducesTo [0, 1, 2] S_
  reducesTo_S8x32_S_d0_1 : S8x32.ReducesTo [0, 1] S_
  bcast_S_S8x49104 : S_.BroadcastsInDim S8x49104 (![] : Fin 0 → Fin S8x49104.rank)
  reducesTo_S8x49104_S_d0_1 : S8x49104.ReducesTo [0, 1] S_

variable [Facts]

def fn_clip {F : FTy → Type} [FloatOps F] (arg0 : FVec F S8x49104x32x2 .f32) (arg1 : FVec F S_ .f32) : FVec F S8x49104x32x2 .f32 :=
  let v0 : FVec F S_ .f32 := id arg1
  let v1 : FVec F S8x49104x32x2 .f32 := broadcastInDim S8x49104x32x2 ![] bcast_S_S8x49104x32x2 v0
  let v2 : FVec F S8x49104x32x2 .f32 := maximumf v1 arg0
  v2

def fn_part3 {F : FTy → Type} [FloatOps F] (main_v4 : IVec S8x49104x80 1) (main_v9 : IVec S8x32 1) (main_v62 : FVec F S8x49104x32 .f32) (main_v65 : FVec F S8x49104x32 .f32) : IVec S_ 1 :=
  let main_v66 : IVec S8x49104x32 1 := cmpf .oeq main_v62 main_v65
  let main_v67 : FVec F S8x49104x32 .f32 := uitofp .f32 main_v66
  let main_cst_4 : FVec F S_ .f32 := constant S_ .f32 0x00000000#32
  let main_v68 : FVec F S8x49104 .f32 := (fun x v => Host.reduceAdd x v reducesTo_S8x49104x32_S8x49104_d2 h_S_) main_v67 main_cst_4
  let main_c_5 : IVec S_ 1 := constantI S_ 1 1#1
  let main_v69 : IVec S_ 1 := (fun x v => Host.reduce IntOp.andi x v reducesTo_S8x49104x80_S_d0_1_2 h_S_) main_v4 main_c_5
  let main_c_6 : IVec S_ 1 := constantI S_ 1 1#1
  let main_v70 : IVec S_ 1 := (fun x v => Host.reduce IntOp.andi x v reducesTo_S8x32_S_d0_1 h_S_) main_v9 main_c_6
  let main_v71 : IVec S_ 1 := andi main_v69 main_v70
  let main_cst_7 : FVec F S_ .f32 := constant S_ .f32 0x3FC00000#32
  let main_v72 : FVec F S8x49104 .f32 := broadcastInDim S8x49104 ![] bcast_S_S8x49104 main_cst_7
  let main_v73 : IVec S8x49104 1 := cmpf .olt main_v68 main_v72
  let main_c_8 : IVec S_ 1 := constantI S_ 1 1#1
  let main_v74 : IVec S_ 1 := (fun x v => Host.reduce IntOp.andi x v reducesTo_S8x49104_S_d0_1 h_S_) main_v73 main_c_8
  let main_v75 : IVec S_ 1 := andi main_v71 main_v74
  main_v75

def fn_part2 {F : FTy → Type} [FloatOps F] (main_v4 : IVec S8x49104x80 1) (main_v9 : IVec S8x32 1) (main_v20 : FVec F S49104 .f32) (main_v31 : FVec F S8x32 .f32) (main_v39 : FVec F S8x49104x32x2 .f32) (main_v41 : FVec F S49104x1x2 .f32) (main_v43 : FVec F S8x1x32x2 .f32) : IVec S_ 1 :=
  let main_v44 : FVec F S1x49104x1x2 .f32 := broadcastInDim S1x49104x1x2 ![1, 2, 3] bcast_S49104x1x2_S1x49104x1x2_1_2_3 main_v41
  let main_v45 : FVec F S8x49104x32x2 .f32 := broadcastInDim S8x49104x32x2 ![0, 1, 2, 3] bcast_S1x49104x1x2_S8x49104x32x2_0_1_2_3 main_v44
  let main_v46 : FVec F S8x49104x32x2 .f32 := broadcastInDim S8x49104x32x2 ![0, 1, 2, 3] bcast_S8x1x32x2_S8x49104x32x2_0_1_2_3 main_v43
  let main_v47 : FVec F S8x49104x32x2 .f32 := minimumf main_v45 main_v46
  let main_v48 : FVec F S8x49104x32x2 .f32 := subf main_v47 main_v39
  let main_cst_2 : FVec F S_ .f32 := constant S_ .f32 0x00000000#32
  let main_v49 : FVec F S8x49104x32x2 .f32 := fn_clip (F := F) main_v48 main_cst_2
  let main_v50 : FVec F S8x49104x32x1 .f32 := (extractStridedSlice S8x49104x32x1 ![0, 0, 0, 0] · slices_S8x49104x32x2_S8x49104x32x1_0_0_0_0) main_v49
  let main_v51 : FVec F S8x49104x32 .f32 := shapeCast S8x49104x32 main_v50 shapeCasts_S8x49104x32x1_S8x49104x32
  let main_v52 : FVec F S8x49104x32x1 .f32 := (extractStridedSlice S8x49104x32x1 ![0, 0, 0, 1] · slices_S8x49104x32x2_S8x49104x32x1_0_0_0_1) main_v49
  let main_v53 : FVec F S8x49104x32 .f32 := shapeCast S8x49104x32 main_v52 shapeCasts_S8x49104x32x1_S8x49104x32
  let main_v54 : FVec F S8x49104x32 .f32 := mulf main_v51 main_v53
  let main_v55 : FVec F S49104x1 .f32 := broadcastInDim S49104x1 ![0] bcast_S49104_S49104x1_0 main_v20
  let main_v56 : FVec F S8x1x32 .f32 := broadcastInDim S8x1x32 ![0, 2] bcast_S8x32_S8x1x32_0_2 main_v31
  let main_v57 : FVec F S1x49104x1 .f32 := broadcastInDim S1x49104x1 ![1, 2] bcast_S49104x1_S1x49104x1_1_2 main_v55
  let main_v58 : FVec F S8x49104x32 .f32 := broadcastInDim S8x49104x32 ![0, 1, 2] bcast_S1x49104x1_S8x49104x32_0_1_2 main_v57
  let main_v59 : FVec F S8x49104x32 .f32 := broadcastInDim S8x49104x32 ![0, 1, 2] bcast_S8x1x32_S8x49104x32_0_1_2 main_v56
  let main_v60 : FVec F S8x49104x32 .f32 := addf main_v58 main_v59
  let main_v61 : FVec F S8x49104x32 .f32 := subf main_v60 main_v54
  let main_v62 : FVec F S8x49104x32 .f32 := Host.divf main_v54 main_v61
  let main_cst_3 : FVec F S_ .f32 := constant S_ .f32 0xFF800000#32
  let main_v63 : FVec F S8x49104 .f32 := (fun x v => Host.reduce FloatOps.maximumf x v reducesTo_S8x49104x32_S8x49104_d2 h_S_) main_v62 main_cst_3
  let main_v64 : FVec F S8x49104x1 .f32 := broadcastInDim S8x49104x1 ![0, 1] bcast_S8x49104_S8x49104x1_0_1 main_v63
  let main_v65 : FVec F S8x49104x32 .f32 := broadcastInDim S8x49104x32 ![0, 1, 2] bcast_S8x49104x1_S8x49104x32_0_1_2 main_v64
  fn_part3 (F := F) main_v4 main_v9 main_v62 main_v65

def fn_part1 {F : FTy → Type} [FloatOps F] (main_arg2 : FVec F S49104x4 .f32) (main_arg4 : FVec F S8x32x4 .f32) (main_v4 : IVec S8x49104x80 1) (main_v9 : IVec S8x32 1) (main_v14 : FVec F S49104 .f32) (main_v19 : FVec F S49104 .f32) : IVec S_ 1 :=
  let main_v20 : FVec F S49104 .f32 := mulf main_v14 main_v19
  let main_v21 : FVec F S8x32x1 .f32 := (extractStridedSlice S8x32x1 ![0, 0, 2] · slices_S8x32x4_S8x32x1_0_0_2) main_arg4
  let main_v22 : FVec F S8x32 .f32 := shapeCast S8x32 main_v21 shapeCasts_S8x32x1_S8x32
  let main_v23 : FVec F S8x32x1 .f32 := (extractStridedSlice S8x32x1 ![0, 0, 0] · slices_S8x32x4_S8x32x1_0_0_0) main_arg4
  let main_v24 : FVec F S8x32 .f32 := shapeCast S8x32 main_v23 shapeCasts_S8x32x1_S8x32
  let main_v25 : FVec F S8x32 .f32 := subf main_v22 main_v24
  let main_v26 : FVec F S8x32x1 .f32 := (extractStridedSlice S8x32x1 ![0, 0, 3] · slices_S8x32x4_S8x32x1_0_0_3) main_arg4
  let main_v27 : FVec F S8x32 .f32 := shapeCast S8x32 main_v26 shapeCasts_S8x32x1_S8x32
  let main_v28 : FVec F S8x32x1 .f32 := (extractStridedSlice S8x32x1 ![0, 0, 1] · slices_S8x32x4_S8x32x1_0_0_1) main_arg4
  let main_v29 : FVec F S8x32 .f32 := shapeCast S8x32 main_v28 shapeCasts_S8x32x1_S8x32
  let main_v30 : FVec F S8x32 .f32 := subf main_v27 main_v29
  let main_v31 : FVec F S8x32 .f32 := mulf main_v25 main_v30
  let main_v32 : FVec F S49104x2 .f32 := (extractStridedSlice S49104x2 ![0, 0] · slices_S49104x4_S49104x2_0_0) main_arg2
  let main_v33 : FVec F S49104x1x2 .f32 := broadcastInDim S49104x1x2 ![0, 2] bcast_S49104x2_S49104x1x2_0_2 main_v32
  let main_v34 : FVec F S8x32x2 .f32 := (extractStridedSlice S8x32x2 ![0, 0, 0] · slices_S8x32x4_S8x32x2_0_0_0) main_arg4
  let main_v35 : FVec F S8x1x32x2 .f32 := broadcastInDim S8x1x32x2 ![0, 2, 3] bcast_S8x32x2_S8x1x32x2_0_2_3 main_v34
  let main_v36 : FVec F S1x49104x1x2 .f32 := broadcastInDim S1x49104x1x2 ![1, 2, 3] bcast_S49104x1x2_S1x49104x1x2_1_2_3 main_v33
  let main_v37 : FVec F S8x49104x32x2 .f32 := broadcastInDim S8x49104x32x2 ![0, 1, 2, 3] bcast_S1x49104x1x2_S8x49104x32x2_0_1_2_3 main_v36
  let main_v38 : FVec F S8x49104x32x2 .f32 := broadcastInDim S8x49104x32x2 ![0, 1, 2, 3] bcast_S8x1x32x2_S8x49104x32x2_0_1_2_3 main_v35
  let main_v39 : FVec F S8x49104x32x2 .f32 := maximumf main_v37 main_v38
  let main_v40 : FVec F S49104x2 .f32 := (extractStridedSlice S49104x2 ![0, 2] · slices_S49104x4_S49104x2_0_2) main_arg2
  let main_v41 : FVec F S49104x1x2 .f32 := broadcastInDim S49104x1x2 ![0, 2] bcast_S49104x2_S49104x1x2_0_2 main_v40
  let main_v42 : FVec F S8x32x2 .f32 := (extractStridedSlice S8x32x2 ![0, 0, 2] · slices_S8x32x4_S8x32x2_0_0_2) main_arg4
  let main_v43 : FVec F S8x1x32x2 .f32 := broadcastInDim S8x1x32x2 ![0, 2, 3] bcast_S8x32x2_S8x1x32x2_0_2_3 main_v42
  fn_part2 (F := F) main_v4 main_v9 main_v20 main_v31 main_v39 main_v41 main_v43

def fn {F : FTy → Type} [FloatOps F] (main_arg0 : FVec F S8x49104x80 .f32) (main_arg1 : FVec F S8x49104x4 .f32) (main_arg2 : FVec F S49104x4 .f32) (main_arg3 : IVec S8x32 32) (main_arg4 : FVec F S8x32x4 .f32) : IVec S_ 1 :=
  let main_cst : FVec F S_ .f32 := constant S_ .f32 0xFF800000#32
  let main_v0 : FVec F S8x49104x80 .f32 := broadcastInDim S8x49104x80 ![] bcast_S_S8x49104x80 main_cst
  let main_v1 : IVec S8x49104x80 1 := cmpf .ogt main_arg0 main_v0
  let main_cst_0 : FVec F S_ .f32 := constant S_ .f32 0x3F800000#32
  let main_v2 : FVec F S8x49104x80 .f32 := broadcastInDim S8x49104x80 ![] bcast_S_S8x49104x80 main_cst_0
  let main_v3 : IVec S8x49104x80 1 := cmpf .olt main_arg0 main_v2
  let main_v4 : IVec S8x49104x80 1 := andi main_v1 main_v3
  let main_c : IVec S_ 32 := constantI S_ 32 0#32
  let main_v5 : IVec S8x32 32 := broadcastInDim S8x32 ![] bcast_S_S8x32 main_c
  let main_v6 : IVec S8x32 1 := cmpi .sge main_arg3 main_v5
  let main_c_1 : IVec S_ 32 := constantI S_ 32 80#32
  let main_v7 : IVec S8x32 32 := broadcastInDim S8x32 ![] bcast_S_S8x32 main_c_1
  let main_v8 : IVec S8x32 1 := cmpi .slt main_arg3 main_v7
  let main_v9 : IVec S8x32 1 := andi main_v6 main_v8
  let main_v10 : FVec F S49104x1 .f32 := (extractStridedSlice S49104x1 ![0, 2] · slices_S49104x4_S49104x1_0_2) main_arg2
  let main_v11 : FVec F S49104 .f32 := shapeCast S49104 main_v10 shapeCasts_S49104x1_S49104
  let main_v12 : FVec F S49104x1 .f32 := (extractStridedSlice S49104x1 ![0, 0] · slices_S49104x4_S49104x1_0_0) main_arg2
  let main_v13 : FVec F S49104 .f32 := shapeCast S49104 main_v12 shapeCasts_S49104x1_S49104
  let main_v14 : FVec F S49104 .f32 := subf main_v11 main_v13
  let main_v15 : FVec F S49104x1 .f32 := (extractStridedSlice S49104x1 ![0, 3] · slices_S49104x4_S49104x1_0_3) main_arg2
  let main_v16 : FVec F S49104 .f32 := shapeCast S49104 main_v15 shapeCasts_S49104x1_S49104
  let main_v17 : FVec F S49104x1 .f32 := (extractStridedSlice S49104x1 ![0, 1] · slices_S49104x4_S49104x1_0_1) main_arg2
  let main_v18 : FVec F S49104 .f32 := shapeCast S49104 main_v17 shapeCasts_S49104x1_S49104
  let main_v19 : FVec F S49104 .f32 := subf main_v16 main_v18
  fn_part1 (F := F) main_arg2 main_arg4 main_v4 main_v9 main_v14 main_v19
-- ==== Kernel.lean ====
abbrev S8x49104x80 : Shape := ⟨3, ![8, 49104, 80]⟩
abbrev S8x49104x4 : Shape := ⟨3, ![8, 49104, 4]⟩
abbrev S49104x4 : Shape := ⟨2, ![49104, 4]⟩
abbrev S8x32 : Shape := ⟨2, ![8, 32]⟩
abbrev S8x32x4 : Shape := ⟨3, ![8, 32, 4]⟩
abbrev S8x32x1 : Shape := ⟨3, ![8, 32, 1]⟩
abbrev S1x1x80 : Shape := ⟨3, ![1, 1, 80]⟩
abbrev S8x32x80 : Shape := ⟨3, ![8, 32, 80]⟩
abbrev S8x4x32 : Shape := ⟨3, ![8, 4, 32]⟩
abbrev S4x49104 : Shape := ⟨2, ![4, 49104]⟩
abbrev S4x6x8184 : Shape := ⟨3, ![4, 6, 8184]⟩
abbrev S6x4x8184 : Shape := ⟨3, ![6, 4, 8184]⟩
abbrev S8x4x49104 : Shape := ⟨3, ![8, 4, 49104]⟩
abbrev S8x4x6x8184 : Shape := ⟨4, ![8, 4, 6, 8184]⟩
abbrev S8x6x4x8184 : Shape := ⟨4, ![8, 6, 4, 8184]⟩
abbrev S1x1 : Shape := ⟨2, ![1, 1]⟩
abbrev S1x32x80 : Shape := ⟨3, ![1, 32, 80]⟩
abbrev S1x32x4 : Shape := ⟨3, ![1, 32, 4]⟩
abbrev S1x4x32 : Shape := ⟨3, ![1, 4, 32]⟩
abbrev S1x4x8184 : Shape := ⟨3, ![1, 4, 8184]⟩
abbrev S1x8184x80 : Shape := ⟨3, ![1, 8184, 80]⟩
abbrev S1x1x4x8184 : Shape := ⟨4, ![1, 1, 4, 8184]⟩
abbrev S4 : Shape := ⟨1, ![4]⟩
abbrev S1 : Shape := ⟨1, ![1]⟩
abbrev S32x80 : Shape := ⟨2, ![32, 80]⟩
abbrev S32x4 : Shape := ⟨2, ![32, 4]⟩
abbrev S4x32 : Shape := ⟨2, ![4, 32]⟩
abbrev S4x8184 : Shape := ⟨2, ![4, 8184]⟩
abbrev S8184x80 : Shape := ⟨2, ![8184, 80]⟩
abbrev S1x8184 : Shape := ⟨2, ![1, 8184]⟩
abbrev S32x1 : Shape := ⟨2, ![32, 1]⟩
abbrev S32x8184 : Shape := ⟨2, ![32, 8184]⟩
abbrev S8184 : Shape := ⟨1, ![8184]⟩
abbrev S1x1x1 : Shape := ⟨3, ![1, 1, 1]⟩
abbrev S1x1x8184 : Shape := ⟨3, ![1, 1, 8184]⟩
abbrev S_ : Shape := ⟨0, ![]⟩

abbrev nBuf : Space → Nat
  | .hbm => 22
  | .vmem => 12
  | .smem => 3
  | _ => 0

abbrev bufTy : (tb : Table) → Fin (tcTables nBuf tb) → BufTy
  | .hbm, ⟨0, _⟩ => ⟨S8x49104x80, .f32⟩
  | .hbm, ⟨1, _⟩ => ⟨S8x49104x4, .f32⟩
  | .hbm, ⟨2, _⟩ => ⟨S49104x4, .f32⟩
  | .hbm, ⟨3, _⟩ => ⟨S8x32, .i32⟩
  | .hbm, ⟨4, _⟩ => ⟨S8x32x4, .f32⟩
  | .hbm, ⟨5, _⟩ => ⟨S8x32x1, .i32⟩
  | .hbm, ⟨6, _⟩ => ⟨S1x1x80, .i32⟩
  | .hbm, ⟨7, _⟩ => ⟨S8x32x80, .i32⟩
  | .hbm, ⟨8, _⟩ => ⟨S8x32x80, .i32⟩
  | .hbm, ⟨9, _⟩ => ⟨S8x32x80, .i1⟩
  | .hbm, ⟨10, _⟩ => ⟨S8x32x80, .f32⟩
  | .hbm, ⟨11, _⟩ => ⟨S8x4x32, .f32⟩
  | .hbm, ⟨12, _⟩ => ⟨S4x49104, .f32⟩
  | .hbm, ⟨13, _⟩ => ⟨S4x6x8184, .f32⟩
  | .hbm, ⟨14, _⟩ => ⟨S6x4x8184, .f32⟩
  | .hbm, ⟨15, _⟩ => ⟨S8x4x49104, .f32⟩
  | .hbm, ⟨16, _⟩ => ⟨S8x4x6x8184, .f32⟩
  | .hbm, ⟨17, _⟩ => ⟨S8x6x4x8184, .f32⟩
  | .hbm, ⟨18, _⟩ => ⟨S1x1, .f32⟩
  | .hbm, ⟨19, _⟩ => ⟨S1x1, .f32⟩
  | .hbm, ⟨20, _⟩ => ⟨S_, .f32⟩
  | .hbm, ⟨21, _⟩ => ⟨S_, .f32⟩
  | .local _ .vmem, ⟨0, _⟩ => ⟨S1x32x80, .f32⟩
  | .local _ .vmem, ⟨1, _⟩ => ⟨S1x32x80, .f32⟩
  | .local _ .vmem, ⟨2, _⟩ => ⟨S1x32x4, .f32⟩
  | .local _ .vmem, ⟨3, _⟩ => ⟨S1x32x4, .f32⟩
  | .local _ .vmem, ⟨4, _⟩ => ⟨S1x4x32, .f32⟩
  | .local _ .vmem, ⟨5, _⟩ => ⟨S1x4x32, .f32⟩
  | .local _ .vmem, ⟨6, _⟩ => ⟨S1x4x8184, .f32⟩
  | .local _ .vmem, ⟨7, _⟩ => ⟨S1x4x8184, .f32⟩
  | .local _ .vmem, ⟨8, _⟩ => ⟨S1x8184x80, .f32⟩
  | .local _ .vmem, ⟨9, _⟩ => ⟨S1x8184x80, .f32⟩
  | .local _ .vmem, ⟨10, _⟩ => ⟨S1x1x4x8184, .f32⟩
  | .local _ .vmem, ⟨11, _⟩ => ⟨S1x1x4x8184, .f32⟩
  | .local _ .smem, ⟨0, _⟩ => ⟨S1x1, .f32⟩
  | .local _ .smem, ⟨1, _⟩ => ⟨S1x1, .f32⟩
  | .local _ .smem, ⟨2, _⟩ => ⟨S4, .f32⟩
  | _, _ => ⟨S8x49104x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.smem, 0, rfl⟩
abbrev cc0_stg7_0 : Ref sig .tc := ⟨.smem, 1, rfl⟩
abbrev cc0_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c5_i32 : BitVec 32 := 5#32
  let v183 : BitVec 1 := Scalar.cmpi .eq arg1 c5_i32
  let v184 : BitVec 32 := Scalar.extui v183
  let c0_i32_60 : BitVec 32 := 0#32
  let v185 : BitVec 1 := Scalar.cmpi .ne v184 c0_i32_60
  v185

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x8184 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8184x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x8184 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S8x49104x80 : Shape := ⟨3, ![8, 49104, 80]⟩
abbrev S8x49104x4 : Shape := ⟨3, ![8, 49104, 4]⟩
abbrev S49104x4 : Shape := ⟨2, ![49104, 4]⟩
abbrev S8x32 : Shape := ⟨2, ![8, 32]⟩
abbrev S8x32x4 : Shape := ⟨3, ![8, 32, 4]⟩
abbrev S49104x1 : Shape := ⟨2, ![49104, 1]⟩
abbrev S49104 : Shape := ⟨1, ![49104]⟩
abbrev S8x32x1 : Shape := ⟨3, ![8, 32, 1]⟩
abbrev S49104x2 : Shape := ⟨2, ![49104, 2]⟩
abbrev S49104x1x2 : Shape := ⟨3, ![49104, 1, 2]⟩
abbrev S8x32x2 : Shape := ⟨3, ![8, 32, 2]⟩
abbrev S8x1x32x2 : Shape := ⟨4, ![8, 1, 32, 2]⟩
abbrev S1x49104x1x2 : Shape := ⟨4, ![1, 49104, 1, 2]⟩
abbrev S8x49104x32x2 : Shape := ⟨4, ![8, 49104, 32, 2]⟩
abbrev S_ : Shape := ⟨0, ![]⟩
abbrev S8x49104x32x1 : Shape := ⟨4, ![8, 49104, 32, 1]⟩
abbrev S8x49104x32 : Shape := ⟨3, ![8, 49104, 32]⟩
abbrev S8x1x32 : Shape := ⟨3, ![8, 1, 32]⟩
abbrev S1x49104x1 : Shape := ⟨3, ![1, 49104, 1]⟩
abbrev S8x49104 : Shape := ⟨2, ![8, 49104]⟩
abbrev S8x49104x1 : Shape := ⟨3, ![8, 49104, 1]⟩
abbrev S1 : Shape := ⟨1, ![1]⟩
abbrev S1x1x1 : Shape := ⟨3, ![1, 1, 1]⟩
abbrev S1x80 : Shape := ⟨2, ![1, 80]⟩
abbrev S1x1x80 : Shape := ⟨3, ![1, 1, 80]⟩
abbrev S49104x80 : Shape := ⟨2, ![49104, 80]⟩
abbrev S8 : Shape := ⟨1, ![8]⟩
abbrev S1x49104 : Shape := ⟨2, ![1, 49104]⟩

abbrev nBuf : Space → Nat
  | .hbm => 337
  | .vmem => 0
  | .smem => 0
  | _ => 0

abbrev hbmTy0_0 (i : Nat) : BufTy := match i % 128 with
  | 0 => ⟨S8x49104x80, .f32⟩
  | 1 => ⟨S8x49104x4, .f32⟩
  | 2 => ⟨S49104x4, .f32⟩
  | 3 => ⟨S8x32, .i32⟩
  | 4 => ⟨S8x32x4, .f32⟩
  | 5 => ⟨S49104x1, .f32⟩
  | 6 => ⟨S49104, .f32⟩
  | 7 => ⟨S49104x1, .f32⟩
  | 8 => ⟨S49104, .f32⟩
  | 9 => ⟨S49104, .f32⟩
  | 10 => ⟨S49104x1, .f32⟩
  | 11 => ⟨S49104, .f32⟩
  | 12 => ⟨S49104x1, .f32⟩
  | 13 => ⟨S49104, .f32⟩
  | 14 => ⟨S49104, .f32⟩
  | 15 => ⟨S49104, .f32⟩
  | 16 => ⟨S8x32x1, .f32⟩
  | 17 => ⟨S8x32, .f32⟩
  | 18 => ⟨S8x32x1, .f32⟩
  | 19 => ⟨S8x32, .f32⟩
  | 20 => ⟨S8x32, .f32⟩
  | 21 => ⟨S8x32x1, .f32⟩
  | 22 => ⟨S8x32, .f32⟩
  | 23 => ⟨S8x32x1, .f32⟩
  | 24 => ⟨S8x32, .f32⟩
  | 25 => ⟨S8x32, .f32⟩
  | 26 => ⟨S8x32, .f32⟩
  | 27 => ⟨S49104x2, .f32⟩
  | 28 => ⟨S49104x1x2, .f32⟩
  | 29 => ⟨S8x32x2, .f32⟩
  | 30 => ⟨S8x1x32x2, .f32⟩
  | 31 => ⟨S1x49104x1x2, .f32⟩
  | 32 => ⟨S8x49104x32x2, .f32⟩
  | 33 => ⟨S8x49104x32x2, .f32⟩
  | 34 => ⟨S8x49104x32x2, .f32⟩
  | 35 => ⟨S49104x2, .f32⟩
  | 36 => ⟨S49104x1x2, .f32⟩
  | 37 => ⟨S8x32x2, .f32⟩
  | 38 => ⟨S8x1x32x2, .f32⟩
  | 39 => ⟨S1x49104x1x2, .f32⟩
  | 40 => ⟨S8x49104x32x2, .f32⟩
  | 41 => ⟨S8x49104x32x2, .f32⟩
  | 42 => ⟨S8x49104x32x2, .f32⟩
  | 43 => ⟨S8x49104x32x2, .f32⟩
  | 44 => ⟨S_, .f32⟩
  | 45 => ⟨S_, .f32⟩
  | 46 => ⟨S8x49104x32x2, .f32⟩
  | 47 => ⟨S8x49104x32x2, .f32⟩
  | 48 => ⟨S8x49104x32x1, .f32⟩
  | 49 => ⟨S8x49104x32, .f32⟩
  | 50 => ⟨S8x49104x32x1, .f32⟩
  | 51 => ⟨S8x49104x32, .f32⟩
  | 52 => ⟨S8x49104x32, .f32⟩
  | 53 => ⟨S49104x1, .f32⟩
  | 54 => ⟨S8x1x32, .f32⟩
  | 55 => ⟨S1x49104x1, .f32⟩
  | 56 => ⟨S8x49104x32, .f32⟩
  | 57 => ⟨S8x49104x32, .f32⟩
  | 58 => ⟨S8x49104x32, .f32⟩
  | 59 => ⟨S8x49104x32, .f32⟩
  | 60 => ⟨S8x49104x32, .f32⟩
  | 61 => ⟨S_, .f32⟩
  | 62 => ⟨S8x49104, .f32⟩
  | 63 => ⟨S8x49104x32, .i32⟩
  | 64 => ⟨S_, .f32⟩
  | 65 => ⟨S_, .i32⟩
  | 66 => ⟨S8x49104, .f32⟩
  | 67 => ⟨S8x49104, .i32⟩
  | 68 => ⟨S_, .i32⟩
  | 69 => ⟨S8x49104, .i32⟩
  | 70 => ⟨S8x49104, .i1⟩
  | 71 => ⟨S_, .i32⟩
  | 72 => ⟨S8x49104, .i32⟩
  | 73 => ⟨S8x49104, .i32⟩
  | 74 => ⟨S8x49104, .i32⟩
  | 75 => ⟨S8x49104x1, .i32⟩
  | 76 => ⟨S1, .i32⟩
  | 77 => ⟨S_, .i32⟩
  | 78 => ⟨S8x49104x1, .i32⟩
  | 79 => ⟨S8x49104x1, .i1⟩
  | 80 => ⟨S1x1x1, .i32⟩
  | 81 => ⟨S8x49104x1, .i32⟩
  | 82 => ⟨S8x49104x1, .i1⟩
  | 83 => ⟨S8x49104x1, .i1⟩
  | 84 => ⟨S_, .i1⟩
  | 85 => ⟨S8x49104, .i1⟩
  | 86 => ⟨S8x49104, .i32⟩
  | 87 => ⟨S_, .i32⟩
  | 88 => ⟨S8x49104, .i32⟩
  | 89 => ⟨S8x49104, .i32⟩
  | 90 => ⟨S8x49104x1, .i32⟩
  | 91 => ⟨S1x80, .i32⟩
  | 92 => ⟨S1x1x80, .i32⟩
  | 93 => ⟨S8x49104x80, .i32⟩
  | 94 => ⟨S8x49104x80, .i32⟩
  | 95 => ⟨S8x49104x80, .i1⟩
  | 96 => ⟨S8x49104x80, .f32⟩
  | 97 => ⟨S_, .f32⟩
  | 98 => ⟨S8x49104x80, .f32⟩
  | 99 => ⟨S8x49104x80, .i1⟩
  | 100 => ⟨S_, .f32⟩
  | 101 => ⟨S8x49104, .f32⟩
  | 102 => ⟨S8x49104, .i1⟩
  | 103 => ⟨S_, .f32⟩
  | 104 => ⟨S8x49104, .f32⟩
  | 105 => ⟨S8x49104, .i1⟩
  | 106 => ⟨S_, .f32⟩
  | 107 => ⟨S8x49104, .f32⟩
  | 108 => ⟨S8x49104, .i1⟩
  | 109 => ⟨S8x49104, .i1⟩
  | 110 => ⟨S8x49104x1, .i1⟩
  | 111 => ⟨S8x49104x80, .i1⟩
  | 112 => ⟨S8x49104x80, .i1⟩
  | 113 => ⟨S8x49104x1, .i1⟩
  | 114 => ⟨S8x49104x80, .i1⟩
  | 115 => ⟨S8x49104x80, .i1⟩
  | 116 => ⟨S_, .f32⟩
  | 117 => ⟨S_, .f32⟩
  | 118 => ⟨S49104x80, .f32⟩
  | 119 => ⟨S49104x80, .f32⟩
  | 120 => ⟨S8x49104x80, .f32⟩
  | 121 => ⟨S8x49104x80, .f32⟩
  | 122 => ⟨S8x49104x80, .f32⟩
  | 123 => ⟨S_, .f32⟩
  | 124 => ⟨S49104x80, .f32⟩
  | 125 => ⟨S8x49104x80, .f32⟩
  | 126 => ⟨S8x49104x80, .f32⟩
  | 127 => ⟨S8x49104, .f32⟩
  | _ => ⟨S8x49104x80, .f32⟩

abbrev hbmTy0_1 (i : Nat) : BufTy := match i % 128 with
  | 0 => ⟨S_, .f32⟩
  | 1 => ⟨S8, .f32⟩
  | 2 => ⟨S_, .f32⟩
  | 3 => ⟨S8x49104x80, .f32⟩
  | 4 => ⟨S8x49104x80, .i1⟩
  | 5 => ⟨S_, .f32⟩
  | 6 => ⟨S8x49104x80, .f32⟩
  | 7 => ⟨S8x49104x80, .i1⟩
  | 8 => ⟨S_, .i1⟩
  | 9 => ⟨S8x49104x80, .i1⟩
  | 10 => ⟨S8x49104x80, .i1⟩
  | 11 => ⟨S8x49104x80, .i1⟩
  | 12 => ⟨S_, .i1⟩
  | 13 => ⟨S8x49104x80, .i1⟩
  | 14 => ⟨S8x49104x80, .i1⟩
  | 15 => ⟨S8x49104x80, .i1⟩
  | 16 => ⟨S8x49104x80, .i1⟩
  | 17 => ⟨S_, .f32⟩
  | 18 => ⟨S8x49104x80, .f32⟩
  | 19 => ⟨S8x49104x80, .f32⟩
  | 20 => ⟨S_, .f32⟩
  | 21 => ⟨S8x49104x80, .f32⟩
  | 22 => ⟨S8x49104x80, .f32⟩
  | 23 => ⟨S_, .f32⟩
  | 24 => ⟨S8x49104x80, .f32⟩
  | 25 => ⟨S8x49104x80, .f32⟩
  | 26 => ⟨S8x49104x80, .f32⟩
  | 27 => ⟨S8x49104x80, .f32⟩
  | 28 => ⟨S8x49104x80, .f32⟩
  | 29 => ⟨S8x49104x80, .f32⟩
  | 30 => ⟨S8x49104x80, .f32⟩
  | 31 => ⟨S_, .f32⟩
  | 32 => ⟨S_, .f32⟩
  | 33 => ⟨S49104x80, .f32⟩
  | 34 => ⟨S8x49104x80, .f32⟩
  | 35 => ⟨S8x49104x80, .f32⟩
  | 36 => ⟨S_, .f32⟩
  | 37 => ⟨S8x49104x80, .f32⟩
  | 38 => ⟨S8x49104x80, .i1⟩
  | 39 => ⟨S_, .f32⟩
  | 40 => ⟨S8x49104x80, .f32⟩
  | 41 => ⟨S8x49104x80, .i1⟩
  | 42 => ⟨S_, .i1⟩
  | 43 => ⟨S8x49104x80, .i1⟩
  | 44 => ⟨S8x49104x80, .i1⟩
  | 45 => ⟨S8x49104x80, .i1⟩
  | 46 => ⟨S_, .i1⟩
  | 47 => ⟨S8x49104x80, .i1⟩
  | 48 => ⟨S8x49104x80, .i1⟩
  | 49 => ⟨S8x49104x80, .i1⟩
  | 50 => ⟨S8x49104x80, .i1⟩
  | 51 => ⟨S_, .f32⟩
  | 52 => ⟨S8x49104x80, .f32⟩
  | 53 => ⟨S8x49104x80, .f32⟩
  | 54 => ⟨S_, .f32⟩
  | 55 => ⟨S8x49104x80, .f32⟩
  | 56 => ⟨S8x49104x80, .f32⟩
  | 57 => ⟨S_, .f32⟩
  | 58 => ⟨S8x49104x80, .f32⟩
  | 59 => ⟨S8x49104x80, .f32⟩
  | 60 => ⟨S8x49104x80, .f32⟩
  | 61 => ⟨S8x49104x80, .f32⟩
  | 62 => ⟨S_, .f32⟩
  | 63 => ⟨S8x49104x80, .f32⟩
  | 64 => ⟨S8x49104x80, .f32⟩
  | 65 => ⟨S8x49104x80, .f32⟩
  | 66 => ⟨S8x49104x80, .f32⟩
  | 67 => ⟨S8x49104x80, .f32⟩
  | 68 => ⟨S_, .f32⟩
  | 69 => ⟨S_, .f32⟩
  | 70 => ⟨S49104x80, .f32⟩
  | 71 => ⟨S8x49104x80, .f32⟩
  | 72 => ⟨S8x49104x80, .f32⟩
  | 73 => ⟨S8x49104x80, .f32⟩
  | 74 => ⟨S_, .f32⟩
  | 75 => ⟨S8, .f32⟩
  | 76 => ⟨S_, .f32⟩
  | 77 => ⟨S8, .f32⟩
  | 78 => ⟨S8, .f32⟩
  | 79 => ⟨S8, .f32⟩
  | 80 => ⟨S_, .i32⟩
  | 81 => ⟨S8x49104, .i32⟩
  | 82 => ⟨S8x49104, .i1⟩
  | 83 => ⟨S_, .i32⟩
  | 84 => ⟨S8x49104, .i32⟩
  | 85 => ⟨S8x49104, .i32⟩
  | 86 => ⟨S8x49104, .i32⟩
  | 87 => ⟨S8x49104x1, .i32⟩
  | 88 => ⟨S1, .i32⟩
  | 89 => ⟨S_, .i32⟩
  | 90 => ⟨S8x49104x1, .i32⟩
  | 91 => ⟨S8x49104x1, .i1⟩
  | 92 => ⟨S1x1x1, .i32⟩
  | 93 => ⟨S8x49104x1, .i32⟩
  | 94 => ⟨S8x49104x1, .i1⟩
  | 95 => ⟨S8x49104x1, .i1⟩
  | 96 => ⟨S_, .i1⟩
  | 97 => ⟨S8x49104, .i1⟩
  | 98 => ⟨S8x49104x4, .f32⟩
  | 99 => ⟨S8x49104x4, .i1⟩
  | 100 => ⟨S_, .f32⟩
  | 101 => ⟨S8x49104x4, .f32⟩
  | 102 => ⟨S8x49104x4, .f32⟩
  | 103 => ⟨S49104x1, .f32⟩
  | 104 => ⟨S49104, .f32⟩
  | 105 => ⟨S49104x1, .f32⟩
  | 106 => ⟨S49104, .f32⟩
  | 107 => ⟨S49104, .f32⟩
  | 108 => ⟨S49104x1, .f32⟩
  | 109 => ⟨S49104, .f32⟩
  | 110 => ⟨S49104x1, .f32⟩
  | 111 => ⟨S49104, .f32⟩
  | 112 => ⟨S49104, .f32⟩
  | 113 => ⟨S49104x1, .f32⟩
  | 114 => ⟨S49104, .f32⟩
  | 115 => ⟨S_, .f32⟩
  | 116 => ⟨S49104, .f32⟩
  | 117 => ⟨S49104, .f32⟩
  | 118 => ⟨S49104, .f32⟩
  | 119 => ⟨S49104x1, .f32⟩
  | 120 => ⟨S49104, .f32⟩
  | 121 => ⟨S_, .f32⟩
  | 122 => ⟨S49104, .f32⟩
  | 123 => ⟨S49104, .f32⟩
  | 124 => ⟨S49104, .f32⟩
  | 125 => ⟨S8x49104x1, .f32⟩
  | 126 => ⟨S8x49104, .f32⟩
  | 127 => ⟨S8x49104x1, .f32⟩
  | _ => ⟨S8x49104x80, .f32⟩

abbrev hbmTy0_2 (i : Nat) : BufTy := match i % 128 with
  | 0 => ⟨S8x49104, .f32⟩
  | 1 => ⟨S8x49104, .f32⟩
  | 2 => ⟨S8x49104x1, .f32⟩
  | 3 => ⟨S8x49104, .f32⟩
  | 4 => ⟨S8x49104x1, .f32⟩
  | 5 => ⟨S8x49104, .f32⟩
  | 6 => ⟨S8x49104, .f32⟩
  | 7 => ⟨S8x49104x1, .f32⟩
  | 8 => ⟨S8x49104, .f32⟩
  | 9 => ⟨S_, .f32⟩
  | 10 => ⟨S8x49104, .f32⟩
  | 11 => ⟨S8x49104, .f32⟩
  | 12 => ⟨S8x49104, .f32⟩
  | 13 => ⟨S8x49104x1, .f32⟩
  | 14 => ⟨S8x49104, .f32⟩
  | 15 => ⟨S_, .f32⟩
  | 16 => ⟨S8x49104, .f32⟩
  | 17 => ⟨S8x49104, .f32⟩
  | 18 => ⟨S8x49104, .f32⟩
  | 19 => ⟨S1x49104, .f32⟩
  | 20 => ⟨S8x49104, .f32⟩
  | 21 => ⟨S8x49104, .f32⟩
  | 22 => ⟨S1x49104, .f32⟩
  | 23 => ⟨S8x49104, .f32⟩
  | 24 => ⟨S8x49104, .f32⟩
  | 25 => ⟨S1x49104, .f32⟩
  | 26 => ⟨S8x49104, .f32⟩
  | 27 => ⟨S8x49104, .f32⟩
  | 28 => ⟨S1x49104, .f32⟩
  | 29 => ⟨S8x49104, .f32⟩
  | 30 => ⟨S8x49104, .f32⟩
  | 31 => ⟨S1x49104, .f32⟩
  | 32 => ⟨S8x49104, .f32⟩
  | 33 => ⟨S8x49104, .f32⟩
  | 34 => ⟨S8x49104, .f32⟩
  | 35 => ⟨S1x49104, .f32⟩
  | 36 => ⟨S8x49104, .f32⟩
  | 37 => ⟨S8x49104, .f32⟩
  | 38 => ⟨S8x49104, .f32⟩
  | 39 => ⟨S8x49104x1, .f32⟩
  | 40 => ⟨S8x49104x1, .f32⟩
  | 41 => ⟨S8x49104x1, .f32⟩
  | 42 => ⟨S8x49104x1, .f32⟩
  | 43 => ⟨S8x49104x4, .f32⟩
  | 44 => ⟨S8x49104x4, .f32⟩
  | 45 => ⟨S8x49104x4, .f32⟩
  | 46 => ⟨S_, .f32⟩
  | 47 => ⟨S8x49104x4, .f32⟩
  | 48 => ⟨S8x49104x4, .i1⟩
  | 49 => ⟨S_, .f32⟩
  | 50 => ⟨S8x49104x4, .f32⟩
  | 51 => ⟨S8x49104x4, .f32⟩
  | 52 => ⟨S8x49104x4, .f32⟩
  | 53 => ⟨S_, .f32⟩
  | 54 => ⟨S8x49104x4, .f32⟩
  | 55 => ⟨S8x49104x4, .f32⟩
  | 56 => ⟨S_, .f32⟩
  | 57 => ⟨S8x49104x4, .f32⟩
  | 58 => ⟨S8x49104x4, .f32⟩
  | 59 => ⟨S8x49104x4, .f32⟩
  | 60 => ⟨S8x49104x1, .i1⟩
  | 61 => ⟨S8x49104x1, .f32⟩
  | 62 => ⟨S8x49104x4, .f32⟩
  | 63 => ⟨S8x49104x4, .f32⟩
  | 64 => ⟨S_, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S8, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | _ => ⟨S8x49104x80, .f32⟩

abbrev hbmTy (i : Nat) : BufTy := match i / 128 with
  | 0 => hbmTy0_0 i
  | 1 => hbmTy0_1 i
  | 2 => hbmTy0_2 i
  | _ => ⟨S8x49104x80, .f32⟩

abbrev bufTy : (tb : Table) → Fin (tcTables nBuf tb) → BufTy
  | .hbm, ⟨i, _⟩ => hbmTy i
  | _, _ => ⟨S8x49104x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_0 : Ref sig .tc := ⟨.hbm, 61, rfl⟩
abbrev main_v53 : Ref sig .tc := ⟨.hbm, 62, rfl⟩
abbrev main_call1_v0 : Ref sig .tc := ⟨.hbm, 63, rfl⟩
abbrev main_call1_cst : Ref sig .tc := ⟨.hbm, 64, rfl⟩
abbrev main_call1_c : Ref sig .tc := ⟨.hbm, 65, rfl⟩
abbrev main_call1_v1_0 : Ref sig .tc := ⟨.hbm, 66, rfl⟩
abbrev main_v54 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_c_4 : Ref sig .tc := ⟨.hbm, 87, rfl⟩
abbrev main_call2_v14 : Ref sig .tc := ⟨.hbm, 88, rfl⟩
abbrev main_v55 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_v56 : Ref sig .tc := ⟨.hbm, 96, rfl⟩
abbrev main_cst_1 : Ref sig .tc := ⟨.hbm, 97, rfl⟩
abbrev main_v57 : Ref sig .tc := ⟨.hbm, 98, rfl⟩
abbrev main_v58 : Ref sig .tc := ⟨.hbm, 99, rfl⟩
abbrev main_cst_2 : Ref sig .tc := ⟨.hbm, 100, rfl⟩
abbrev main_v59 : Ref sig .tc := ⟨.hbm, 101, rfl⟩
abbrev main_v60 : Ref sig .tc := ⟨.hbm, 102, rfl⟩
abbrev main_cst_3 : Ref sig .tc := ⟨.hbm, 103, rfl⟩
abbrev main_v61 : Ref sig .tc := ⟨.hbm, 104, rfl⟩
abbrev main_v62 : Ref sig .tc := ⟨.hbm, 105, rfl⟩
abbrev main_cst_4 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_5 : Ref sig .tc := ⟨.hbm, 116, rfl⟩
abbrev main_cst_6 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_v72 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_v73 : Ref sig .tc := ⟨.hbm, 126, rfl⟩
abbrev main_v74 : Ref sig .tc := ⟨.hbm, 127, rfl⟩
abbrev main_cst_8 : Ref sig .tc := ⟨.hbm, 128, rfl⟩
abbrev main_v75 : Ref sig .tc := ⟨.hbm, 129, rfl⟩
abbrev main_cst_9 : Ref sig .tc := ⟨.hbm, 130, rfl⟩
abbrev main_v76 : Ref sig .tc := ⟨.hbm, 131, rfl⟩
abbrev main_v77 : Ref sig .tc := ⟨.hbm, 132, rfl⟩
abbrev main_cst_10 : Ref sig .tc := ⟨.hbm, 133, rfl⟩
abbrev main_v78 : Ref sig .tc := ⟨.hbm, 134, rfl⟩
abbrev main_v79 : Ref sig .tc := ⟨.hbm, 135, rfl⟩
abbrev main_c : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_c_11 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_12 : Ref sig .tc := ⟨.hbm, 145, rfl⟩
abbrev main_v87 : Ref sig .tc := ⟨.hbm, 146, rfl⟩
abbrev main_v88 : Ref sig .tc := ⟨.hbm, 147, rfl⟩
abbrev main_cst_13 : Ref sig .tc := ⟨.hbm, 148, rfl⟩
abbrev main_v89 : Ref sig .tc := ⟨.hbm, 149, rfl⟩
abbrev main_v90 : Ref sig .tc := ⟨.hbm, 150, rfl⟩
abbrev main_cst_14 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_15 : Ref sig .tc := ⟨.hbm, 159, rfl⟩
abbrev main_call6_v0 : Ref sig .tc := ⟨.hbm, 160, rfl⟩
abbrev main_call6_v1 : Ref sig .tc := ⟨.hbm, 161, rfl⟩
abbrev main_call6_v2 : Ref sig .tc := ⟨.hbm, 162, rfl⟩
abbrev main_v98 : Ref sig .tc := ⟨.hbm, 163, rfl⟩
abbrev main_cst_16 : Ref sig .tc := ⟨.hbm, 164, rfl⟩
abbrev main_v99 : Ref sig .tc := ⟨.hbm, 165, rfl⟩
abbrev main_v100 : Ref sig .tc := ⟨.hbm, 166, rfl⟩
abbrev main_cst_17 : Ref sig .tc := ⟨.hbm, 167, rfl⟩
abbrev main_v101 : Ref sig .tc := ⟨.hbm, 168, rfl⟩
abbrev main_v102 : Ref sig .tc := ⟨.hbm, 169, rfl⟩
abbrev main_c_18 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_c_19 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_20 : Ref sig .tc := ⟨.hbm, 179, rfl⟩
abbrev main_v110 : Ref sig .tc := ⟨.hbm, 180, rfl⟩
abbrev main_v111 : Ref sig .tc := ⟨.hbm, 181, rfl⟩
abbrev main_cst_21 : Ref sig .tc := ⟨.hbm, 182, rfl⟩
abbrev main_v112 : Ref sig .tc := ⟨.hbm, 183, rfl⟩
abbrev main_v113 : Ref sig .tc := ⟨.hbm, 184, rfl⟩
abbrev main_cst_22 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_23 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_cst_24 : Ref sig .tc := ⟨.hbm, 196, rfl⟩
abbrev main_call7_v0 : Ref sig .tc := ⟨.hbm, 197, rfl⟩
abbrev main_call7_v1 : Ref sig .tc := ⟨.hbm, 198, rfl⟩
abbrev main_call7_v2 : Ref sig .tc := ⟨.hbm, 199, rfl⟩
abbrev main_v123 : Ref sig .tc := ⟨.hbm, 200, rfl⟩
abbrev main_v124 : Ref sig .tc := ⟨.hbm, 201, rfl⟩
abbrev main_cst_25 : Ref sig .tc := ⟨.hbm, 202, rfl⟩
abbrev main_v125 : Ref sig .tc := ⟨.hbm, 203, rfl⟩
abbrev main_cst_26 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_call8_c : Ref sig .tc := ⟨.hbm, 208, rfl⟩
abbrev main_call8_v0 : Ref sig .tc := ⟨.hbm, 209, rfl⟩
abbrev main_call8_v1 : Ref sig .tc := ⟨.hbm, 210, rfl⟩
abbrev main_call8_c_0 : Ref sig .tc := ⟨.hbm, 211, rfl⟩
abbrev main_call8_v2 : Ref sig .tc := ⟨.hbm, 212, rfl⟩
abbrev main_call8_v3 : Ref sig .tc := ⟨.hbm, 213, rfl⟩
abbrev main_call8_v4 : Ref sig .tc := ⟨.hbm, 214, rfl⟩
abbrev main_call8_v5 : Ref sig .tc := ⟨.hbm, 215, rfl⟩
abbrev main_call8_c_1 : Ref sig .tc := ⟨.hbm, 216, rfl⟩
abbrev main_call8_c_2 : Ref sig .tc := ⟨.hbm, 217, rfl⟩
abbrev main_call8_v6 : Ref sig .tc := ⟨.hbm, 218, rfl⟩
abbrev main_call8_v7 : Ref sig .tc := ⟨.hbm, 219, rfl⟩
abbrev main_call8_v8 : Ref sig .tc := ⟨.hbm, 220, rfl⟩
abbrev main_call8_v9 : Ref sig .tc := ⟨.hbm, 221, rfl⟩
abbrev main_call8_v10 : Ref sig .tc := ⟨.hbm, 222, rfl⟩
abbrev main_call8_v11 : Ref sig .tc := ⟨.hbm, 223, rfl⟩
abbrev main_call8_c_3 : Ref sig .tc := ⟨.hbm, 224, rfl⟩
abbrev main_call8_v12 : Ref sig .tc := ⟨.hbm, 225, rfl⟩
abbrev main_call8_v13 : Ref sig .tc := ⟨.hbm, 226, rfl⟩
abbrev main_call8_v14 : Ref sig .tc := ⟨.hbm, 227, rfl⟩
abbrev main_call8_cst : Ref sig .tc := ⟨.hbm, 228, rfl⟩
abbrev main_call8_v15 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_27 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_cst_28 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_cst_29 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_cst_30 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_cst_31 : Ref sig .tc := ⟨.hbm, 302, rfl⟩
abbrev main_v197 : Ref sig .tc := ⟨.hbm, 303, rfl⟩
abbrev main_v198 : Ref sig .tc := ⟨.hbm, 304, rfl⟩
abbrev main_cst_32 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_cst_33 : Ref sig .tc := ⟨.hbm, 309, rfl⟩
abbrev main_v202 : Ref sig .tc := ⟨.hbm, 310, rfl⟩
abbrev main_v203 : Ref sig .tc := ⟨.hbm, 311, rfl⟩
abbrev main_cst_34 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_cst_35 : Ref sig .tc := ⟨.hbm, 320, rfl⟩
abbrev main_v211 : Ref sig .tc := ⟨.hbm, 321, rfl⟩
abbrev main_cst_36 : Ref sig .tc := ⟨.hbm, 322, rfl⟩
abbrev main_v212 : Ref sig .tc := ⟨.hbm, 323, rfl⟩
abbrev main_v213 : Ref sig .tc := ⟨.hbm, 324, rfl⟩
abbrev main_cst_37 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_cst_38 : Ref sig .tc := ⟨.hbm, 329, rfl⟩
abbrev main_v217 : Ref sig .tc := ⟨.hbm, 330, rfl⟩
abbrev main_cst_39 : Ref sig .tc := ⟨.hbm, 331, rfl⟩
abbrev main_v218 : Ref sig .tc := ⟨.hbm, 332, rfl⟩
abbrev main_cst_40 : Ref sig .tc := ⟨.hbm, 333, rfl⟩
abbrev main_v219 : Ref sig .tc := ⟨.hbm, 334, rfl⟩
abbrev main_cst_41 : Ref sig .tc := ⟨.hbm, 335, rfl⟩
abbrev main_v220 : Ref sig .tc := ⟨.hbm, 336, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.CellWrites
public import Idealize.ShloMosaic.Lib.WholeRead
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What one grid point computes from its six input blocks -/

/-- The branch that zeroes both outputs. -/
abbrev condInit (i : grid0.Coords) : Prop := k0_cond1 i = 1#1
/-- The branch that zeroes the three running words. -/
abbrev condFirst (i : grid0.Coords) : Prop := (Scalar.cmpi .ne (Scalar.extui (Scalar.cmpi .eq (BitVec.ofNat 32 (i 1).val) 0#32)) 0#32) = 1#1
/-- The branch that adds the finished image to both outputs. -/
abbrev condLast (i : grid0.Coords) : Prop := k0_cond3 i = 1#1

/-- The best overlap of each anchor of the block. -/
def best (x1 : Vec F S1x32x4 .f32) (x3 : Vec F S1x4x8184 .f32) : FVec F S1x8184 .f32 :=
  k0_pay24 (k0_pay11 x3) (k0_pay12 x3) (k0_pay13 x3) (k0_pay14 x3) (k0_pay15 x1) (k0_pay16 x1) (k0_pay17 x1) (k0_pay18 x1) (k0_pay21 x3) (k0_pay22 x1)
/-- The mark of the positive anchors. -/
def posf (x1 : Vec F S1x32x4 .f32) (x3 : Vec F S1x4x8184 .f32) : FVec F S1x8184 .f32 :=
  k0_pay32 (k0_pay11 x3) (k0_pay12 x3) (k0_pay13 x3) (k0_pay14 x3) (k0_pay15 x1) (k0_pay16 x1) (k0_pay17 x1) (k0_pay18 x1) (k0_pay21 x3) (k0_pay22 x1)
/-- The class score of each anchor at the label of its best box. -/
def picked (x0 : Vec F S1x32x80 .f32) (x1 : Vec F S1x32x4 .f32) (x3 : Vec F S1x4x8184 .f32) (x4 : Vec F S1x8184x80 .f32) : FVec F S1x8184 .f32 :=
  k0_pay31 (k0_pay5 x0) (k0_pay9 x4) (k0_pay11 x3) (k0_pay12 x3) (k0_pay13 x3) (k0_pay14 x3) (k0_pay15 x1) (k0_pay16 x1) (k0_pay17 x1) (k0_pay18 x1) (k0_pay21 x3) (k0_pay22 x1)
/-- The four coordinates of each anchor's best box, one row each. -/
def boxX0 (x1 : Vec F S1x32x4 .f32) (x2 : Vec F S1x4x32 .f32) (x3 : Vec F S1x4x8184 .f32) : FVec F S1x8184 .f32 :=
  k0_pay27 (k0_pay7 x2) (k0_pay11 x3) (k0_pay12 x3) (k0_pay13 x3) (k0_pay14 x3) (k0_pay15 x1) (k0_pay16 x1) (k0_pay17 x1) (k0_pay18 x1) (k0_pay21 x3) (k0_pay22 x1)
@[inherit_doc boxX0]
def boxY0 (x1 : Vec F S1x32x4 .f32) (x2 : Vec F S1x4x32 .f32) (x3 : Vec F S1x4x8184 .f32) : FVec F S1x8184 .f32 :=
  k0_pay28 (k0_pay7 x2) (k0_pay11 x3) (k0_pay12 x3) (k0_pay13 x3) (k0_pay14 x3) (k0_pay15 x1) (k0_pay16 x1) (k0_pay17 x1) (k0_pay18 x1) (k0_pay21 x3) (k0_pay22 x1)
@[inherit_doc boxX0]
def boxX1 (x1 : Vec F S1x32x4 .f32) (x2 : Vec F S1x4x32 .f32) (x3 : Vec F S1x4x8184 .f32) : FVec F S1x8184 .f32 :=
  k0_pay29 (k0_pay7 x2) (k0_pay11 x3) (k0_pay12 x3) (k0_pay13 x3) (k0_pay14 x3) (k0_pay15 x1) (k0_pay16 x1) (k0_pay17 x1) (k0_pay18 x1) (k0_pay21 x3) (k0_pay22 x1)
@[inherit_doc boxX0]
def boxY1 (x1 : Vec F S1x32x4 .f32) (x2 : Vec F S1x4x32 .f32) (x3 : Vec F S1x4x8184 .f32) : FVec F S1x8184 .f32 :=
  k0_pay30 (k0_pay7 x2) (k0_pay11 x3) (k0_pay12 x3) (k0_pay13 x3) (k0_pay14 x3) (k0_pay15 x1) (k0_pay16 x1) (k0_pay17 x1) (k0_pay18 x1) (k0_pay21 x3) (k0_pay22 x1)

/-- The block's part of the classification sum: the dense term over all scores. -/
def dense (x4 : Vec F S1x8184x80 .f32) : F .f32 := k0_pay33 (k0_pay9 x4)
/-- The block's part of the classification sum: the correction at each anchor's label. -/
def corr (x0 : Vec F S1x32x80 .f32) (x1 : Vec F S1x32x4 .f32) (x3 : Vec F S1x4x8184 .f32) (x4 : Vec F S1x8184x80 .f32) : F .f32 :=
  k0_pay34 (best x1 x3) (picked x0 x1 x3 x4) (posf x1 x3) (FloatOps.ofBits FTy.f32 0x3ECCCCCD#32)
/-- The block's number of positive anchors. -/
def count (x1 : Vec F S1x32x4 .f32) (x3 : Vec F S1x4x8184 .f32) : F .f32 := k0_pay36 (k0_pay35 (posf x1 x3))
/-- The block's regression sum. -/
def regs (x1 : Vec F S1x32x4 .f32) (x2 : Vec F S1x4x32 .f32) (x3 : Vec F S1x4x8184 .f32) (x5 : Vec F S1x1x4x8184 .f32) : F .f32 :=
  k0_pay37 (k0_pay10 x5) (k0_pay11 x3) (k0_pay12 x3) (k0_pay19 x3) (k0_pay20 x3) (boxX0 x1 x2 x3) (boxY0 x1 x2 x3) (boxX1 x1 x2 x3) (boxY1 x1 x2 x3) (posf x1 x3)

/-- Three running words: the classification sum, the count of positive anchors and the regression sum. -/
structure Words (F : FTy → Type) where
  cls : F .f32
  cnt : F .f32
  reg : F .f32

/-- The index of a word of the four-word buffer. -/
def word (k : Fin 4) : S4.Idx := fun a => match a with | ⟨0, _⟩ => k

/-- Words 0, 1, 2 of the four-word buffer. -/
def wordsOf (s : Vec F S4 .f32) : Words F := ⟨s (word 0), s (word 1), s (word 2)⟩

/-- All three words zero. -/
def Words.zero : Words F := ⟨FloatOps.ofBits FTy.f32 0#32, FloatOps.ofBits FTy.f32 0#32, FloatOps.ofBits FTy.f32 0#32⟩

/-- The words after one block, from the words before it. -/
def Words.add (w : Words F) (x0 : Vec F S1x32x80 .f32) (x1 : Vec F S1x32x4 .f32) (x2 : Vec F S1x4x32 .f32) (x3 : Vec F S1x4x8184 .f32) (x4 : Vec F S1x8184x80 .f32) (x5 : Vec F S1x1x4x8184 .f32) : Words F :=
  ⟨k0_pay38 (dense x4) (corr x0 x1 x3 x4) w.cls, k0_pay1 (count x1 x3) w.cnt, k0_pay2 (regs x1 x2 x3 x5) w.reg⟩

/-- The classification output after an image is finished (`w`: the words before its last block). -/
def outCls (w : Words F) (x0 : Vec F S1x32x80 .f32) (x1 : Vec F S1x32x4 .f32) (x2 : Vec F S1x4x32 .f32) (x3 : Vec F S1x4x8184 .f32) (x4 : Vec F S1x8184x80 .f32) (x5 : Vec F S1x1x4x8184 .f32) (o : F .f32) : F .f32 :=
  k0_pay3 (count x1 x3) (k0_pay38 (dense x4) (corr x0 x1 x3 x4) w.cls) w.cnt o
/-- The regression output after an image is finished. -/
def outReg (w : Words F) (x0 : Vec F S1x32x80 .f32) (x1 : Vec F S1x32x4 .f32) (x2 : Vec F S1x4x32 .f32) (x3 : Vec F S1x4x8184 .f32) (x4 : Vec F S1x8184x80 .f32) (x5 : Vec F S1x1x4x8184 .f32) (o : F .f32) : F .f32 :=
  k0_pay4 (count x1 x3) (regs x1 x2 x3 x5) w.cnt w.reg o

open Classical in
/-- The words a point starts from. -/
def startWords (i : grid0.Coords) (s : Words F) : Words F := if condFirst i then Words.zero else s
open Classical in
/-- What a point leaves in the classification output that holds `o`. -/
def nextCls (i : grid0.Coords) (w : Words F) (x0 : Vec F S1x32x80 .f32) (x1 : Vec F S1x32x4 .f32) (x2 : Vec F S1x4x32 .f32) (x3 : Vec F S1x4x8184 .f32) (x4 : Vec F S1x8184x80 .f32) (x5 : Vec F S1x1x4x8184 .f32) (o : Vec F S1x1 .f32) : Vec F S1x1 .f32 :=
  if condInit i then fun _ => FloatOps.ofBits FTy.f32 0#32 else if condLast i then fun _ => outCls (startWords i w) x0 x1 x2 x3 x4 x5 (o (Shape.Idx.first (by decide))) else o
open Classical in
/-- What a point leaves in the regression output that holds `o`. -/
def nextReg (i : grid0.Coords) (w : Words F) (x0 : Vec F S1x32x80 .f32) (x1 : Vec F S1x32x4 .f32) (x2 : Vec F S1x4x32 .f32) (x3 : Vec F S1x4x8184 .f32) (x4 : Vec F S1x8184x80 .f32) (x5 : Vec F S1x1x4x8184 .f32) (o : Vec F S1x1 .f32) : Vec F S1x1 .f32 :=
  if condInit i then fun _ => FloatOps.ofBits FTy.f32 0#32 else if condLast i then fun _ => outReg (startWords i w) x0 x1 x2 x3 x4 x5 (o (Shape.Idx.first (by decide))) else o

/-! ## What the loads and stores of whole buffers and single words read -/

/-- A load of a whole buffer that holds `x` reads `x`. -/
theorem ld_whole {κ : Kind} {sp : Space} {s : Shape} {e : EltTy} {M : Memref sig κ sp s e} (h : M.IsWhole) (x : s.Idx → Elt F e)
    {off : Fin s.rank → ℕ} (inb : ∀ a, off a + s.size a ≤ s.size a) :
    View.readAt (Elt F) M.view (Rect.unit off s.size inb).toLoadRect (h.unread x) = x := by
  rw [View.readAt_full, h.read_unread]

/-- A load of one word of a four-word buffer that holds `x` reads that word of `x`. -/
theorem ld_word {κ : Kind} {sp : Space} {M : Memref sig κ sp S4 .f32} (h : M.IsWhole) (x : Vec F S4 .f32) (k : Fin 4)
    (inb : ∀ a, (![k.val] : Fin 1 → ℕ) a + S1.size a ≤ S4.size a) :
    View.readAt (Elt F) M.view (Rect.unit (s := S4) ![k.val] S1.size inb).toLoadRect (h.unread x) = fun _ => x (word k) := by
  funext y
  rw [h.readAt_unread]
  congr 1
  funext a
  match a with
  | ⟨0, _⟩ => exact Fin.ext (by show k.val + 1 * (y 0).val = k.val; have : (y 0).val < 1 := (y 0).isLt; omega)

/-- Three one-word stores into the four-word buffer leave their payloads in words 0, 1, 2. -/
theorem wordsOf_writes {κ : Kind} {sp : Space} (v : View sig κ sp S4 .f32) (f : v.ty.Contents (Elt F))
    (i0 : ∀ a, (![0] : Fin 1 → ℕ) a + (![1] : Fin 1 → ℕ) a ≤ S4.size a) (i1 : ∀ a, (![1] : Fin 1 → ℕ) a + (![1] : Fin 1 → ℕ) a ≤ S4.size a)
    (i2 : ∀ a, (![2] : Fin 1 → ℕ) a + (![1] : Fin 1 → ℕ) a ≤ S4.size a) (p0 p1 p2 : F .f32) (L : List (View.Piece (Elt F) S4 .f32)) :
    wordsOf (v.read (Elt F) (v.writes (Elt F) f ((⟨Rect.unit (s := S4) ![2] ![1] i2, fun _ => p2⟩ : View.Piece (Elt F) S4 .f32)
      :: ⟨Rect.unit (s := S4) ![1] ![1] i1, fun _ => p1⟩ :: ⟨Rect.unit (s := S4) ![0] ![1] i0, fun _ => p0⟩ :: L))) = ⟨p0, p1, p2⟩ := by
  unfold wordsOf
  have e (y : S4.Idx) := View.read_writes_cons_cell (Val := Elt F) v f i2 p2 (⟨Rect.unit (s := S4) ![1] ![1] i1, fun _ => p1⟩ :: ⟨Rect.unit (s := S4) ![0] ![1] i0, fun _ => p0⟩ :: L) y
  have e' (y : S4.Idx) := View.read_writes_cons_cell (Val := Elt F) v f i1 p1 (⟨Rect.unit (s := S4) ![0] ![1] i0, fun _ => p0⟩ :: L) y
  have e'' (y : S4.Idx) := View.read_writes_cons_cell (Val := Elt F) v f i0 p0 L y
  congr 1
  · exact (e _).trans ((if_neg (by decide)).trans ((e' _).trans ((if_neg (by decide)).trans ((e'' _).trans (if_pos rfl)))))
  · exact (e _).trans ((if_neg (by decide)).trans ((e' _).trans (if_pos rfl)))
  · exact (e _).trans (if_pos rfl)

/-! ## The body's run at a point -/
set_option maxHeartbeats 1000000 in
/-- The body on whole buffers: the inputs come back as they were, the two outputs and the running words as stated. -/
theorem body_run (c : Dev nD) (i : grid0.Coords) (arg2 : Memref sig .tc .vmem S1x32x80 .f32) (harg2 : arg2.IsWhole) (arg3 : Memref sig .tc .vmem S1x32x4 .f32) (harg3 : arg3.IsWhole) (arg4 : Memref sig .tc .vmem S1x4x32 .f32) (harg4 : arg4.IsWhole) (arg5 : Memref sig .tc .vmem S1x4x8184 .f32) (harg5 : arg5.IsWhole) (arg6 : Memref sig .tc .vmem S1x8184x80 .f32) (harg6 : arg6.IsWhole) (arg7 : Memref sig .tc .vmem S1x1x4x8184 .f32) (harg7 : arg7.IsWhole) (arg8 : Memref sig .tc .smem S1x1 .f32) (harg8 : arg8.IsWhole) (arg9 : Memref sig .tc .smem S1x1 .f32) (harg9 : arg9.IsWhole) (arg10 : Memref sig .tc .smem S4 .f32) (harg10 : arg10.IsWhole)
    (hcase : (condInit i ∧ condFirst i ∧ ¬ condLast i) ∨ (¬ condInit i ∧ ¬ condFirst i ∧ ¬ condLast i) ∨ (¬ condInit i ∧ ¬ condFirst i ∧ condLast i) ∨ (¬ condInit i ∧ condFirst i ∧ ¬ condLast i))
    (x0 : Vec F S1x32x80 .f32) (x1 : Vec F S1x32x4 .f32) (x2 : Vec F S1x4x32 .f32) (x3 : Vec F S1x4x8184 .f32) (x4 : Vec F S1x8184x80 .f32) (x5 : Vec F S1x1x4x8184 .f32)
    (o6 o7 : Vec F S1x1 .f32) (s : Vec F S4 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (nextCls i (wordsOf s) x0 x1 x2 x3 x4 x5 o6) ∗ owns (c : Thread nD τ) arg9 fullShare (nextReg i (wordsOf s) x0 x1 x2 x3 x4 x5 o7) ∗ (∃ s', ⌜wordsOf s' = (startWords i (wordsOf s)).add x0 x1 x2 x3 x4 x5⌝ ∗ owns (c : Thread nD τ) arg10 fullShare s')) -∗ K ⟨⟩))
          ⊢ wp frame (wpE (defs₀ (F := F)) Variants.none c none) E (cc0__focal_kernel i arg2 harg2 arg3 harg3 arg4 harg4 arg5 harg5 arg6 harg6 arg7 harg7 arg8 harg8 arg9 harg9 arg10 harg10) K := by
    simp only [cc0__focal_kernel_eq_skeleton]; unfold cc0__focal_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    have e0 := ld_whole (F := F) harg2 x0 inb_S1x32x80_S1x32x80_0_0_0
    have e1 := ld_whole (F := F) harg3 x1 inb_S1x32x4_S1x32x4_0_0_0
    have e2 := ld_whole (F := F) harg4 x2 inb_S1x4x32_S1x4x32_0_0_0
    have e3 := ld_whole (F := F) harg5 x3 inb_S1x4x8184_S1x4x8184_0_0_0
    have e4 := ld_whole (F := F) harg6 x4 inb_S1x8184x80_S1x8184x80_0_0_0
    have e5 := ld_whole (F := F) harg7 x5 inb_S1x1x4x8184_S1x1x4x8184_0_0_0_0
    have e6 := ld_whole (F := F) harg8 o6 inb_S1x1_S1x1_0_0
    have e7 := ld_whole (F := F) harg9 o7 inb_S1x1_S1x1_0_0
    have w0 := ld_word (F := F) harg10 s 0 inb_S4_S1_0
    have w1 := ld_word (F := F) harg10 s 1 inb_S4_S1_1
    have w2 := ld_word (F := F) harg10 s 2 inb_S4_S1_2
    rcases hcase with ⟨hc0, hc1, hc2⟩ | ⟨hc0, hc1, hc2⟩ | ⟨hc0, hc1, hc2⟩ | ⟨hc0, hc1, hc2⟩
    all_goals
      sl_exec (disch := first | sl_exact hc0 | sl_exact hc1 | sl_exact hc2)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr
        swap; · iexact H6
        ipureintro
        first
        | rw [nextCls, if_pos hc0]; exact View.read_writes_full _ _ inb_S1x1_S1x1_0_0 _ _
        | rw [nextCls, if_neg hc0, if_neg hc2]; exact harg8.read_unread _
        | rw [nextCls, if_neg hc0, if_pos hc2, startWords, if_neg hc1]
          refine (View.read_writes_full _ _ inb_S1x1_S1x1_0_0 _ _).trans ?_
          rfl
      isplitl [H7]
      · iexists _; isplitr
        swap; · iexact H7
        ipureintro
        first
        | rw [nextReg, if_pos hc0]; exact View.read_writes_full _ _ inb_S1x1_S1x1_0_0 _ _
        | rw [nextReg, if_neg hc0, if_neg hc2]; exact harg9.read_unread _
        | rw [nextReg, if_neg hc0, if_pos hc2, startWords, if_neg hc1]
          refine (View.read_writes_full _ _ inb_S1x1_S1x1_0_0 _ _).trans ?_
          rfl
      iexists _; isplitr
      swap
      · iexists _; isplitr
        swap; · iexact HS0
        ipureintro; rfl
      ipureintro
      refine (wordsOf_writes arg10.view _ inb_S4_S1_0 inb_S4_S1_1 inb_S4_S1_2 _ _ _ _).trans ?_
      first | rw [startWords, if_pos hc1] | rw [startWords, if_neg hc1]
      rfl

end Cert.KernelIdeal.Body
end
-- ==== Proof.Run.lean ====
module

public import proofs.«01_k».proof.Proof.Body
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.WordCmp
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three branch conditions by position -/

/-- The outputs are zeroed at the first point only. -/
theorem condInit_iff : ∀ t : Fin cfg0.N, condInit (grid0.coords t) ↔ t.val % 48 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [condInit, k0_cond1, e0, e1]
    word_cmp
   : ∀ t : Fin grid0.N, condInit (grid0.coords t) ↔ t.val % 48 = 0)

/-- The words are zeroed at each image's first block. -/
theorem condFirst_iff : ∀ t : Fin cfg0.N, condFirst (grid0.coords t) ↔ t.val % 6 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [condFirst, e0, e1]
    word_cmp
   : ∀ t : Fin grid0.N, condFirst (grid0.coords t) ↔ t.val % 6 = 0)

/-- The outputs are updated at each image's last block. -/
theorem condLast_iff : ∀ t : Fin cfg0.N, condLast (grid0.coords t) ↔ t.val % 6 = 5 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [condLast, k0_cond3, e0, e1]
    word_cmp
   : ∀ t : Fin grid0.N, condLast (grid0.coords t) ↔ t.val % 6 = 5)

/-- Every point is in one of the four cases of `body_run`. -/
theorem cases_of (t : Fin cfg0.N) :
    (condInit (grid0.coords t) ∧ condFirst (grid0.coords t) ∧ ¬ condLast (grid0.coords t))
      ∨ (¬ condInit (grid0.coords t) ∧ ¬ condFirst (grid0.coords t) ∧ ¬ condLast (grid0.coords t))
      ∨ (¬ condInit (grid0.coords t) ∧ ¬ condFirst (grid0.coords t) ∧ condLast (grid0.coords t))
      ∨ (¬ condInit (grid0.coords t) ∧ condFirst (grid0.coords t) ∧ ¬ condLast (grid0.coords t)) := by
  rw [condInit_iff, condFirst_iff, condLast_iff]
  omega

/-- The first point zeroes both outputs. -/
theorem init_of_zero (t : Fin cfg0.N) (h : t.val = 0) : condInit (grid0.coords t) := (condInit_iff t).mpr (by omega)
/-- The first point zeroes the words. -/
theorem first_of_zero (t : Fin cfg0.N) (h : t.val = 0) : condFirst (grid0.coords t) := (condFirst_iff t).mpr (by omega)

/-! ## Where the two outputs are stored -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl

/-- The positions before which an output's buffer holds nothing stored yet. -/
def freshAt (n : ℕ) : Bool := n == 0 || n == 48

/-- Output 6 is stored at the first point and at each image's last block. -/
theorem live6 : ∀ t : Fin cfg0.N, condInit (grid0.coords t) ∨ condLast (grid0.coords t) → cfg0.idle 6 (grid0.coords t) = false := by decide +kernel
/-- Elsewhere it is neither stored nor written back. -/
theorem idle6 : ∀ t : Fin cfg0.N, ¬ condInit (grid0.coords t) → ¬ condLast (grid0.coords t) →
    cfg0.idle 6 (grid0.coords t) = true ∧ (cfg0.win 6).flush t = false := by decide +kernel
theorem fresh6_step : ∀ t : Fin cfg0.N, freshAt (t.val + 1) = ((cfg0.win 6).flush t || (cfg0.idle 6 (cfg0.grid.coords t) && freshAt t.val)) := by decide +kernel
/-- After the first point its buffer always holds what an earlier point stored. -/
theorem fresh6 (t : Fin cfg0.N) (h : t.val ≠ 0) : cfg0.fresh 6 t.val = false := by
  rw [Pipeline.Cfg.fresh_tab cfg0 6 freshAt rfl fresh6_step t.val (Nat.le_of_lt t.isLt)]
  have ht : t.val < 48 := Nat.lt_of_lt_of_eq t.isLt N_0
  simp only [freshAt, Bool.or_eq_false_iff, beq_eq_false_iff_ne]
  omega

/-- Output 7 is stored at the first point and at each image's last block. -/
theorem live7 : ∀ t : Fin cfg0.N, condInit (grid0.coords t) ∨ condLast (grid0.coords t) → cfg0.idle 7 (grid0.coords t) = false := by decide +kernel
/-- Elsewhere it is neither stored nor written back. -/
theorem idle7 : ∀ t : Fin cfg0.N, ¬ condInit (grid0.coords t) → ¬ condLast (grid0.coords t) →
    cfg0.idle 7 (grid0.coords t) = true ∧ (cfg0.win 7).flush t = false := by decide +kernel
theorem fresh7_step : ∀ t : Fin cfg0.N, freshAt (t.val + 1) = ((cfg0.win 7).flush t || (cfg0.idle 7 (cfg0.grid.coords t) && freshAt t.val)) := by decide +kernel
/-- After the first point its buffer always holds what an earlier point stored. -/
theorem fresh7 (t : Fin cfg0.N) (h : t.val ≠ 0) : cfg0.fresh 7 t.val = false := by
  rw [Pipeline.Cfg.fresh_tab cfg0 7 freshAt rfl fresh7_step t.val (Nat.le_of_lt t.isLt)]
  have ht : t.val < 48 := Nat.lt_of_lt_of_eq t.isLt N_0
  simp only [freshAt, Bool.or_eq_false_iff, beq_eq_false_iff_ne]
  omega

/-! ## The buffers the body is called on -/

abbrev buf0 (t : Fin cfg0.N) : Memref sig .tc .vmem S1x32x80 .f32 := win0_0.stage (cfg0.slots t 0)
abbrev hbuf0 (t : Fin cfg0.N) : (buf0 t).IsWhole := hstage0_0 ((cfg0.slots t 0).cast nbuf0_0)
abbrev buf1 (t : Fin cfg0.N) : Memref sig .tc .vmem S1x32x4 .f32 := win0_1.stage (cfg0.slots t 1)
abbrev hbuf1 (t : Fin cfg0.N) : (buf1 t).IsWhole := hstage0_1 ((cfg0.slots t 1).cast nbuf0_1)
abbrev buf2 (t : Fin cfg0.N) : Memref sig .tc .vmem S1x4x32 .f32 := win0_2.stage (cfg0.slots t 2)
abbrev hbuf2 (t : Fin cfg0.N) : (buf2 t).IsWhole := hstage0_2 ((cfg0.slots t 2).cast nbuf0_2)
abbrev buf3 (t : Fin cfg0.N) : Memref sig .tc .vmem S1x4x8184 .f32 := win0_3.stage (cfg0.slots t 3)
abbrev hbuf3 (t : Fin cfg0.N) : (buf3 t).IsWhole := hstage0_3 ((cfg0.slots t 3).cast nbuf0_3)
abbrev buf4 (t : Fin cfg0.N) : Memref sig .tc .vmem S1x8184x80 .f32 := win0_4.stage (cfg0.slots t 4)
abbrev hbuf4 (t : Fin cfg0.N) : (buf4 t).IsWhole := hstage0_4 ((cfg0.slots t 4).cast nbuf0_4)
abbrev buf5 (t : Fin cfg0.N) : Memref sig .tc .vmem S1x1x4x8184 .f32 := win0_5.stage (cfg0.slots t 5)
abbrev hbuf5 (t : Fin cfg0.N) : (buf5 t).IsWhole := hstage0_5 ((cfg0.slots t 5).cast nbuf0_5)
abbrev buf6 (t : Fin cfg0.N) : Memref sig .tc .smem S1x1 .f32 := win0_6.stage (cfg0.slots t 6)
abbrev hbuf6 (t : Fin cfg0.N) : (buf6 t).IsWhole := hstage0_6 ((cfg0.slots t 6).cast nbuf0_6)
abbrev buf7 (t : Fin cfg0.N) : Memref sig .tc .smem S1x1 .f32 := win0_7.stage (cfg0.slots t 7)
abbrev hbuf7 (t : Fin cfg0.N) : (buf7 t).IsWhole := hstage0_7 ((cfg0.slots t 7).cast nbuf0_7)
abbrev bufS : Memref sig .tc .smem S4 .f32 := Memref.whole cc0_scratch0

/-- The region's invariant: the four-word buffer at some contents and the generator register at some state. -/
theorem PhiA_eq (c : Dev nD) :
    (Pipeline.ΦA spec0 c : sProp 𝕄) = iprop(iprop((∃ d, owns (c : Thread nD τ) bufS fullShare d)) ∗ (∃ r, prngReg c r)) := by
  unfold Pipeline.ΦA; rw [scopedRest0_eq]; simp only [bufS, owns_whole]; try rfl

/-! ## What the points leave, one after the other -/

/-- The running words and the two outputs. -/
structure St (F : FTy → Type) where
  w : Words F
  cls : Vec F S1x1 .f32
  reg : Vec F S1x1 .f32

/-- What point `t` makes of them. -/
def stepSt (c : Dev nD) (t : Fin cfg0.N) (s : St F) : St F where
  w := (startWords (grid0.coords t) s.w).add (iblk m c 0 t) (iblk m c 1 t) (iblk m c 2 t) (iblk m c 3 t) (iblk m c 4 t) (iblk m c 5 t)
  cls := nextCls (grid0.coords t) s.w (iblk m c 0 t) (iblk m c 1 t) (iblk m c 2 t) (iblk m c 3 t) (iblk m c 4 t) (iblk m c 5 t) s.cls
  reg := nextReg (grid0.coords t) s.w (iblk m c 0 t) (iblk m c 1 t) (iblk m c 2 t) (iblk m c 3 t) (iblk m c 4 t) (iblk m c 5 t) s.reg

/-- What they are after `n` points (before the first: zero; nothing depends on it). -/
def stAt (c : Dev nD) : ℕ → St F
  | 0 => ⟨Words.zero, fun _ => FloatOps.ofBits FTy.f32 0#32, fun _ => FloatOps.ofBits FTy.f32 0#32⟩
  | n + 1 => if h : n < cfg0.N then stepSt m c ⟨n, h⟩ (stAt c n) else stAt c n

theorem stAt_succ (c : Dev nD) (t : Fin cfg0.N) : stAt m c (t.val + 1) = stepSt m c t (stAt m c t.val) := by
  rw [stAt, dif_pos t.isLt]

/-- Nothing of the state before the first point is used. -/
theorem start_indep (c : Dev nD) (t : Fin cfg0.N) (s : Words F) (h : t.val ≠ 0 → s = (stAt m c t.val).w) :
    startWords (grid0.coords t) s = startWords (grid0.coords t) (stAt m c t.val).w := by
  by_cases ht : t.val = 0
  · simp only [startWords, if_pos (first_of_zero t ht)]
  · rw [h ht]

theorem words_step (c : Dev nD) (t : Fin cfg0.N) (s : Words F) (h : t.val ≠ 0 → s = (stAt m c t.val).w) :
    (startWords (grid0.coords t) s).add (iblk m c 0 t) (iblk m c 1 t) (iblk m c 2 t) (iblk m c 3 t) (iblk m c 4 t) (iblk m c 5 t) = (stAt m c (t.val + 1)).w := by
  rw [stAt_succ, start_indep m c t s h]; rfl

theorem cls_step (c : Dev nD) (t : Fin cfg0.N) (s : Words F) (h : t.val ≠ 0 → s = (stAt m c t.val).w) (o : Vec F S1x1 .f32)
    (ho : t.val ≠ 0 → o = (stAt m c t.val).cls) :
    nextCls (grid0.coords t) s (iblk m c 0 t) (iblk m c 1 t) (iblk m c 2 t) (iblk m c 3 t) (iblk m c 4 t) (iblk m c 5 t) o = (stAt m c (t.val + 1)).cls := by
  rw [stAt_succ]
  show _ = nextCls _ _ _ _ _ _ _ _ _
  by_cases ht : t.val = 0
  · simp only [nextCls, if_pos (init_of_zero t ht)]
  · rw [h ht, ho ht]
theorem cls_keep (c : Dev nD) (t : Fin cfg0.N) (h0 : ¬ condInit (grid0.coords t)) (h2 : ¬ condLast (grid0.coords t)) :
    (stAt m c (t.val + 1)).cls = (stAt m c t.val).cls := by
  rw [stAt_succ]
  show nextCls _ _ _ _ _ _ _ _ _ = _
  rw [nextCls, if_neg h0, if_neg h2]

theorem reg_step (c : Dev nD) (t : Fin cfg0.N) (s : Words F) (h : t.val ≠ 0 → s = (stAt m c t.val).w) (o : Vec F S1x1 .f32)
    (ho : t.val ≠ 0 → o = (stAt m c t.val).reg) :
    nextReg (grid0.coords t) s (iblk m c 0 t) (iblk m c 1 t) (iblk m c 2 t) (iblk m c 3 t) (iblk m c 4 t) (iblk m c 5 t) o = (stAt m c (t.val + 1)).reg := by
  rw [stAt_succ]
  show _ = nextReg _ _ _ _ _ _ _ _ _
  by_cases ht : t.val = 0
  · simp only [nextReg, if_pos (init_of_zero t ht)]
  · rw [h ht, ho ht]
theorem reg_keep (c : Dev nD) (t : Fin cfg0.N) (h0 : ¬ condInit (grid0.coords t)) (h2 : ¬ condLast (grid0.coords t)) :
    (stAt m c (t.val + 1)).reg = (stAt m c t.val).reg := by
  rw [stAt_succ]
  show nextReg _ _ _ _ _ _ _ _ _ = _
  rw [nextReg, if_neg h0, if_neg h2]

/-! ## The proof data of the pipeline -/

/-- Before position `n`: the four-word buffer whose first three words are the running words (at anything before the first
    point), and the generator register. -/
def Inv (c : Dev nD) (n : ℕ) : sProp 𝕄 :=
  iprop(iprop(∃ s, ⌜n ≠ 0 → wordsOf s = (stAt m c n).w⌝ ∗ owns (c : Thread nD τ) bufS fullShare s) ∗ (∃ r, prngReg c r))

/-- The arrays as the region finds them; after point `t` each input's buffer at its block and the outputs at `stAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c (t.val + 1)).cls
    | ⟨7, _⟩ => (stAt m c (t.val + 1)).reg
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (stAt m c (t.val + 1)).cls := by dsimp only [dats]
theorem after7 (c : Dev nD) (t : Fin cfg0.N) : (dats m 0 c).after 7 t = (stAt m c (t.val + 1)).reg := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem leaves0 (c : Dev nD) (t : Fin cfg0.N) : (dats m 0 c).leavesExact 0 t = owns (c : Thread nD τ) (buf0 t) fullShare (iblk m c 0 t) := by
  unfold Dat.leavesExact; rw [live0 t, after0]
theorem leaves1 (c : Dev nD) (t : Fin cfg0.N) : (dats m 0 c).leavesExact 1 t = owns (c : Thread nD τ) (buf1 t) fullShare (iblk m c 1 t) := by
  unfold Dat.leavesExact; rw [live1 t, after1]
theorem leaves2 (c : Dev nD) (t : Fin cfg0.N) : (dats m 0 c).leavesExact 2 t = owns (c : Thread nD τ) (buf2 t) fullShare (iblk m c 2 t) := by
  unfold Dat.leavesExact; rw [live2 t, after2]
theorem leaves3 (c : Dev nD) (t : Fin cfg0.N) : (dats m 0 c).leavesExact 3 t = owns (c : Thread nD τ) (buf3 t) fullShare (iblk m c 3 t) := by
  unfold Dat.leavesExact; rw [live3 t, after3]
theorem leaves4 (c : Dev nD) (t : Fin cfg0.N) : (dats m 0 c).leavesExact 4 t = owns (c : Thread nD τ) (buf4 t) fullShare (iblk m c 4 t) := by
  unfold Dat.leavesExact; rw [live4 t, after4]
theorem leaves5 (c : Dev nD) (t : Fin cfg0.N) : (dats m 0 c).leavesExact 5 t = owns (c : Thread nD τ) (buf5 t) fullShare (iblk m c 5 t) := by
  unfold Dat.leavesExact; rw [live5 t, after5]

/-- A point that stores nothing into output 6 keeps what the point before left. -/
theorem carry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t ht hi _
  rw [after6, after6]
  have h0 : ¬ condInit (grid0.coords t) := fun h => by rw [live6 t (.inl h)] at hi; exact Bool.false_ne_true hi
  have h2 : ¬ condLast (grid0.coords t) := fun h => by rw [live6 t (.inr h)] at hi; exact Bool.false_ne_true hi
  rw [cls_keep m c t h0 h2]
  congr 2
  show t.val = t.val - 1 + 1
  omega

/-- Before a point that is not the first, output 6's buffer holds what the points so far made of it. -/
theorem before6 (c : Dev nD) (t : Fin cfg0.N) (ht : t.val ≠ 0) (d) : (dats m 0 c).before 6 t d = (stAt m c t.val).cls := by
  rw [Dat.before_out_traj _ 6 rfl (fun _ _ => rfl) (carry6 m c) t.val t rfl d, if_neg (by rw [fresh6 t ht]; exact Bool.false_ne_true), after6]
  congr 2
  show t.val - 1 + 1 = t.val
  omega

/-- What the body leaves in output 6's buffer is what the pipeline expects there. -/
theorem leaves6 (c : Dev nD) (t : Fin cfg0.N) (s : Words F) (h : t.val ≠ 0 → s = (stAt m c t.val).w) (d) :
    owns (c : Thread nD τ) (buf6 t) fullShare (nextCls (grid0.coords t) s (iblk m c 0 t) (iblk m c 1 t) (iblk m c 2 t) (iblk m c 3 t) (iblk m c 4 t) (iblk m c 5 t) ((dats m 0 c).before 6 t d)) ⊢ (dats m 0 c).leavesExact 6 t := by
  by_cases hl : condInit (grid0.coords t) ∨ condLast (grid0.coords t)
  · rw [show (dats m 0 c).leavesExact 6 t = owns (c : Thread nD τ) (buf6 t) fullShare ((dats m 0 c).after 6 t) from by
      unfold Dat.leavesExact; rw [live6 t hl], after6, cls_step m c t s h _ fun ht => before6 m c t ht d]
  · have h0 : ¬ condInit (grid0.coords t) := fun h => hl (.inl h)
    have h2 : ¬ condLast (grid0.coords t) := fun h => hl (.inr h)
    rw [Dat.leavesExact_idle (dats m 0 c) 6 t (idle6 t h0 h2).1 (idle6 t h0 h2).2, nextCls, if_neg h0, if_neg h2]
    iintro H
    iexists _; iexact H

/-- A point that stores nothing into output 7 keeps what the point before left. -/
theorem carry7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t ht hi _
  rw [after7, after7]
  have h0 : ¬ condInit (grid0.coords t) := fun h => by rw [live7 t (.inl h)] at hi; exact Bool.false_ne_true hi
  have h2 : ¬ condLast (grid0.coords t) := fun h => by rw [live7 t (.inr h)] at hi; exact Bool.false_ne_true hi
  rw [reg_keep m c t h0 h2]
  congr 2
  show t.val = t.val - 1 + 1
  omega

/-- Before a point that is not the first, output 7's buffer holds what the points so far made of it. -/
theorem before7 (c : Dev nD) (t : Fin cfg0.N) (ht : t.val ≠ 0) (d) : (dats m 0 c).before 7 t d = (stAt m c t.val).reg := by
  rw [Dat.before_out_traj _ 7 rfl (fun _ _ => rfl) (carry7 m c) t.val t rfl d, if_neg (by rw [fresh7 t ht]; exact Bool.false_ne_true), after7]
  congr 2
  show t.val - 1 + 1 = t.val
  omega

/-- What the body leaves in output 7's buffer is what the pipeline expects there. -/
theorem leaves7 (c : Dev nD) (t : Fin cfg0.N) (s : Words F) (h : t.val ≠ 0 → s = (stAt m c t.val).w) (d) :
    owns (c : Thread nD τ) (buf7 t) fullShare (nextReg (grid0.coords t) s (iblk m c 0 t) (iblk m c 1 t) (iblk m c 2 t) (iblk m c 3 t) (iblk m c 4 t) (iblk m c 5 t) ((dats m 0 c).before 7 t d)) ⊢ (dats m 0 c).leavesExact 7 t := by
  by_cases hl : condInit (grid0.coords t) ∨ condLast (grid0.coords t)
  · rw [show (dats m 0 c).leavesExact 7 t = owns (c : Thread nD τ) (buf7 t) fullShare ((dats m 0 c).after 7 t) from by
      unfold Dat.leavesExact; rw [live7 t hl], after7, reg_step m c t s h _ fun ht => before7 m c t ht d]
  · have h0 : ¬ condInit (grid0.coords t) := fun h => hl (.inl h)
    have h2 : ¬ condLast (grid0.coords t) := fun h => hl (.inr h)
    rw [Dat.leavesExact_idle (dats m 0 c) 7 t (idle7 t h0 h2).1 (idle7 t h0 h2).2, nextReg, if_neg h0, if_neg h2]
    iintro H
    iexists _; iexact H

/-! ## The body at any point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.castSucc = Inv m c t.val from rfl, show (dats m 0 c).Φ t.succ = Inv m c (t.val + 1) from rfl,
    leaves0, leaves1, leaves2, leaves3, leaves4, leaves5]
  unfold Inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ (cases_of t) (iblk m c 0 t) (iblk m c 1 t) (iblk m c 2 t) (iblk m c 3 t) (iblk m c 4 t) (iblk m c 5 t) _ _ s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, ⟨%s', %hs', HS⟩⟩
  isplitl [HS Hg]
  · isplitl [HS]
    · iexists s'; isplitr
      · ipureintro; intro _; rw [hs', words_step m c t (wordsOf s) hs]
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6 m c t (wordsOf s) hs d6); iexact H6
  iapply (leaves7 m c t (wordsOf s) hs d7); iexact H7

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's invariant starts ours. -/
theorem hin (c : Dev nD) : Pipeline.ΦA spec0 c ⊢ (dats m 0 c).Φ 0 := by
  rw [show (dats m 0 c).Φ 0 = Inv m c 0 from rfl, PhiA_eq]
  unfold Inv
  iintro ⟨⟨%s, HS⟩, Hg⟩
  isplitl [HS]
  · iexists s; isplitr
    · ipureintro; exact fun h => absurd rfl h
    iexact HS
  iexact Hg

/-- Ours gives the region's invariant back at the end. -/
theorem hout (c : Dev nD) : (dats m 0 c).Φ (Fin.last cfg0.N) ⊢ Pipeline.ΦA spec0 c := by
  rw [show (dats m 0 c).Φ (Fin.last cfg0.N) = Inv m c cfg0.N from rfl, PhiA_eq]
  unfold Inv
  iintro ⟨⟨%s, -, HS⟩, Hg⟩
  isplitl [HS]
  · iexists s; iexact HS
  iexact Hg

/-! ## The run and the frame -/

set_option backward.isDefEq.respectTransparency.types false in
set_option maxHeartbeats 800000 in
/-- The whole program terminates with every array as the proof data says and every semaphore at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program terminates, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Body
end
-- ==== Proof.Same.lean ====
/-
  THE PRINTED KERNEL AND ITS IDEALIZATION ARE ONE PROGRAM. The ideal pass rewrote no operation, so the text of `Cert.Kernel`
  and the text of `Cert.KernelIdeal` differ only in their namespace. Read at one float instance they are equal as terms:
  the body (`body_eq`), the body table (`bodies_eq`), the label table (`defs_eq`) and @main (`main_eq`). So the run proved
  of the idealized text at every float instance (`Cert.KernelIdeal.Body.frame`) is also the printed kernel's (`frame`).
-/
module

public import proofs.«01_k».proof.Defs
public import proofs.«01_k».proof.Proof.Run
public import proofs.«01_k».proof.Proof.Gen.Kernel.Frame
public import proofs.«01_k».proof.Proof.Gen.KernelIdeal.Frame

public section

set_option maxHeartbeats 1000000

namespace Cert.Same

open Idealize.ShloMosaic

/-- The two bodies, at any grid point and on any buffers. -/
theorem body_eq (i a2 h2 a3 h3 a4 h4 a5 h5 a6 h6 a7 h7 a8 h8 a9 h9 a10 h10) :
    @Cert.Kernel.cc0__focal_kernel Bits _ Cert.Kernel.Gen.facts i a2 h2 a3 h3 a4 h4 a5 h5 a6 h6 a7 h7 a8 h8 a9 h9 a10 h10
      = @Cert.KernelIdeal.cc0__focal_kernel Bits _ Cert.KernelIdeal.Gen.facts i a2 h2 a3 h3 a4 h4 a5 h5 a6 h6 a7 h7 a8 h8
          a9 h9 a10 h10 := by
  rfl

/-- The two tables of bodies. -/
theorem bodies_eq :
    @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) => exact body_eq _ _ _ _ _ _ _ _ _ _ _ _ _ _ _ _ _ _ _

/-- The two label tables. -/
theorem defs_eq : @Cert.Kernel.defs Bits _ Cert.Kernel.Gen.facts = @Cert.KernelIdeal.defs Bits _ Cert.KernelIdeal.Gen.facts :=
  congrArg (Pipeline.defs Cert.KernelIdeal.pcfgs) bodies_eq

/-- The two @mains. -/
theorem main_eq : @Cert.Kernel.main Bits _ Cert.Kernel.Gen.facts = @Cert.KernelIdeal.main Bits _ Cert.KernelIdeal.Gen.facts := by
  rfl

/-- The printed kernel runs from any memory, its arguments end unchanged, its counters at zero. -/
theorem frame : Cert.quiescent_Kernel := by
  intro m ρ _
  have h := Cert.KernelIdeal.Body.frame (F := Bits) m ρ
  rw [defs_eq, main_eq]
  exact h

end Cert.Same
-- ==== Proof.RefFrame.lean ====
/-
  THE REFERENCE'S FRAME: it is host operations only, so it runs; no operation writes an argument; it declares no semaphore.
-/
module

public import proofs.«01_k».proof.Defs
public import Idealize.ShloMosaic.Lib.Claim
public import Idealize.ShloMosaic.Lib.Quiescent
public import proofs.«01_k».proof.Proof.Gen.ReferenceIdeal

public section

namespace Cert.ReferenceIdeal.Run

open Idealize.ShloMosaic

set_option maxHeartbeats 4000000 in
theorem frame : Cert.quiescent_ReferenceIdeal := by
  intro m ρ _
  hlo_run
  · exact fun _ => ⟨trivial, trivial, trivial, trivial, trivial⟩
  · exact sem_eq_zero_of_no_sems (by decide) _

end Cert.ReferenceIdeal.Run
-- ==== Proof.Spec.lean ====
/- The mathematics both programs compute, over the extended reals, with the identities that relate the two
   ways of adding it up. -/
module

public import Idealize.ShloMosaic.PureOps.Ideal.Laws
public import Idealize.ShloMosaic.Lib.IdealHost

@[expose] public section

noncomputable section

namespace Cert.Spec

open Idealize.ShloMosaic

/-! ## The constants of the two programs -/

abbrev half : EReal := Ideal.ofBits .f32 1056964608#32
abbrev p4 : EReal := Ideal.ofBits .f32 1053609165#32
abbrev qt : EReal := Ideal.ofBits .f32 1048576000#32
abbrev tq : EReal := Ideal.ofBits .f32 1061158912#32
abbrev two : EReal := Ideal.ofBits .f32 1073741824#32
abbrev four : EReal := Ideal.ofBits .f32 1082130432#32
abbrev eight : EReal := Ideal.ofBits .f32 1090519040#32
abbrev eighth : EReal := Ideal.ofBits .f32 1040187392#32
abbrev negOne : EReal := Ideal.ofBits .f32 3212836864#32
abbrev lowest : EReal := Ideal.ofBits .f32 4286578688#32
abbrev beta : EReal := Ideal.ofBits .f32 1038323257#32
abbrev hbeta : EReal := Ideal.ofBits .f32 1029934649#32

theorem half_eq : half = (((1 : ℝ) / 2 : ℝ) : EReal) := by
  simp [Ideal.ofBits, Ideal.ieee, -EReal.coe_mul]; norm_num
theorem tq_eq : tq = (((3 : ℝ) / 4 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem eight_eq : eight = ((8 : ℝ) : EReal) := by
  simp [Ideal.ofBits, Ideal.ieee, -EReal.coe_mul]; norm_num
theorem eighth_eq : eighth = (((8 : ℝ)⁻¹ : ℝ) : EReal) := by
  simp [Ideal.ofBits, Ideal.ieee, -EReal.coe_mul]; norm_num
theorem negOne_eq : negOne = ((-(1 : ℝ) : ℝ) : EReal) := by
  simp [Ideal.ofBits, Ideal.ieee, -EReal.coe_mul, -EReal.coe_neg]; norm_num
theorem p4_eq : p4 = (((13421773 : ℝ) / 33554432 : ℝ) : EReal) := by
  simp [Ideal.ofBits, Ideal.ieee, -EReal.coe_mul]; norm_num
theorem lowest_eq : lowest = ⊥ := by
  simp [Ideal.ofBits, Ideal.ieee]

theorem p4_lt_half : p4 < half := by
  rw [p4_eq, half_eq]; exact EReal.coe_lt_coe_iff.2 (by norm_num)

theorem half_lt_one : half < 1 := by
  rw [half_eq]; exact_mod_cast (by norm_num : (1 : ℝ) / 2 < 1)

theorem not_half_lt_zero : ¬ half < 0 := by
  rw [half_eq, not_lt]; exact_mod_cast (by norm_num : (0 : ℝ) ≤ 1 / 2)

theorem negOne_ne_zero : negOne ≠ 0 := by
  rw [negOne_eq]; exact_mod_cast (by norm_num : (-1 : ℝ) ≠ 0)

theorem negOne_ne_one : negOne ≠ 1 := by
  rw [negOne_eq]; exact_mod_cast (by norm_num : (-1 : ℝ) ≠ 1)

/-! ## The first greatest of a family -/

/-- `s` is the least index at which `f` is greatest. -/
def IsSel {n : Nat} (f : Fin n → EReal) (s : Fin n) : Prop :=
  (∀ g, f g ≤ f s) ∧ ∀ g, f g = f s → s ≤ g

theorem IsSel.unique {n : Nat} {f : Fin n → EReal} {s t : Fin n} (hs : IsSel f s) (ht : IsSel f t) : s = t :=
  le_antisymm (hs.2 t (le_antisymm (hs.1 t) (ht.1 s))) (ht.2 s (le_antisymm (ht.1 s) (hs.1 t)))

theorem exists_isSel (f : Fin 32 → EReal) : ∃ s, IsSel f s := by
  classical
  obtain ⟨b, -, hb⟩ := Finset.exists_max_image Finset.univ f ⟨0, Finset.mem_univ 0⟩
  have hne : (Finset.univ.filter fun g => f g = f b).Nonempty := ⟨b, by simp⟩
  refine ⟨(Finset.univ.filter fun g => f g = f b).min' hne, ?_, ?_⟩
  · intro g
    have h := Finset.min'_mem _ hne
    rw [Finset.mem_filter] at h
    rw [h.2]; exact hb g (Finset.mem_univ g)
  · intro g hg
    have h := Finset.min'_mem _ hne
    rw [Finset.mem_filter] at h
    exact Finset.min'_le _ _ (by simp [hg, h.2])

/-- The first index at which `f` is greatest. -/
def sel (f : Fin 32 → EReal) : Fin 32 := (exists_isSel f).choose

theorem sel_spec (f : Fin 32 → EReal) : IsSel f (sel f) := (exists_isSel f).choose_spec

theorem sel_eq {f : Fin 32 → EReal} {s : Fin 32} (h : IsSel f s) : s = sel f := h.unique (sel_spec f)

/-- The greatest of a family, from the bottom up. -/
def best (f : Fin 32 → EReal) : EReal := Finset.fold max lowest f Finset.univ

/-! ## Boxes -/

/-- A box: left, top, right, bottom. -/
abbrev Box := Fin 4 → EReal

/-- The area two boxes share. -/
def inter (a b : Box) : EReal :=
  max 0 (min (a 2) (b 2) - max (a 0) (b 0)) * max 0 (min (a 3) (b 3) - max (a 1) (b 1))

/-- Intersection over union. -/
def iou (a b : Box) : EReal :=
  Ideal.div (inter a b) ((a 2 - a 0) * (a 3 - a 1) + (b 2 - b 0) * (b 3 - b 1) - inter a b)

/-- An anchor against every box of an image. -/
def ious (a : Box) (B : Fin 32 → Box) : Fin 32 → EReal := fun g => iou a (B g)

/-- A box written relative to an anchor. -/
def enc (a b : Box) : Box :=
  ![Ideal.div (b 0 + half * (b 2 - b 0) - (a 0 + half * (a 2 - a 0))) (a 2 - a 0),
    Ideal.div (b 1 + half * (b 3 - b 1) - (a 1 + half * (a 3 - a 1))) (a 3 - a 1),
    Ideal.log (Ideal.div (b 2 - b 0) (a 2 - a 0)),
    Ideal.log (Ideal.div (b 3 - b 1) (a 3 - a 1))]

/-- The smoothed absolute value. -/
def smooth (d : EReal) : EReal :=
  if max d (-d) < beta then Ideal.div (half * max d (-d) * max d (-d)) beta else max d (-d) - hbeta

/-! ## The loss of one anchor -/

/-- The loss of a score whose class is absent. -/
def negL (c : EReal) : EReal := tq * c * c * (0 - Ideal.log (1 - c))

/-- The loss of a score whose class is present. -/
def posL (c : EReal) : EReal := qt * (1 - c) * (1 - c) * (0 - Ideal.log c)

/-- The label that belongs to an anchor: the one of the box it overlaps most. -/
def lab (a : Box) (B : Fin 32 → Box) (L : Fin 32 → BitVec 32) : BitVec 32 := L (sel (ious a B))

open Classical in
/-- One score's term: present, ignored, or absent. -/
def term (p t h : Prop) (c : EReal) : EReal :=
  if p ∧ h then posL c else if t ∧ h then 0 else negL c

/-- The class loss of one anchor. -/
def clsAt (a : Box) (B : Fin 32 → Box) (L : Fin 32 → BitVec 32) (C : Fin 80 → EReal) : EReal :=
  ∑ c : Fin 80, term (half ≤ best (ious a B)) (p4 ≤ best (ious a B)) (lab a B L = BitVec.ofNat 32 c) (C c)

open Classical in
/-- One for an anchor that belongs to a box, else zero. -/
def cntAt (a : Box) (B : Fin 32 → Box) : EReal := if half ≤ best (ious a B) then 1 else 0

/-- The box loss of one anchor. -/
def regAt (a : Box) (B : Fin 32 → Box) (R : Box) : EReal :=
  cntAt a B * ∑ k : Fin 4, smooth (R k - enc a (B (sel (ious a B))) k)

open Classical in
/-- A score's target as the reference writes it: one if present, minus one if ignored, else zero. -/
def target (p t h : Prop) : EReal := if p ∧ h then 1 else if (t ∧ ¬p) ∧ h then negOne else 0

/-- The loss of a score at a target, as the reference writes it. -/
def focal (t c : EReal) : EReal :=
  (if t = 0 ∨ t = negOne then 0 else qt * Ideal.pow (1 - c) two * t * -Ideal.log c)
    + (if t = 1 ∨ t = negOne then 0 else tq * Ideal.pow c two * (1 - t) * -Ideal.log (1 - c))

/-! ## The loss of an image, and of the batch -/

variable {n : Nat}

def clsSum (A : Fin n → Box) (B : Fin 32 → Box) (L : Fin 32 → BitVec 32) (C : Fin n → Fin 80 → EReal) : EReal :=
  ∑ x, clsAt (A x) B L (C x)

def cntSum (A : Fin n → Box) (B : Fin 32 → Box) : EReal := ∑ x, cntAt (A x) B

def regSum (A : Fin n → Box) (B : Fin 32 → Box) (R : Fin n → Box) : EReal := ∑ x, regAt (A x) B (R x)

/-- The class loss of an image: the sum over its positives, at least one. -/
def clsImg (A : Fin n → Box) (B : Fin 32 → Box) (L : Fin 32 → BitVec 32) (C : Fin n → Fin 80 → EReal) : EReal :=
  Ideal.div (clsSum A B L C) (max (cntSum A B) 1)

/-- The box loss of an image: the sum over four times its positives, at least one. -/
def regImg (A : Fin n → Box) (B : Fin 32 → Box) (R : Fin n → Box) : EReal :=
  Ideal.div (regSum A B R) (max (four * cntSum A B) 1)

def clsLoss (A : Fin n → Box) (B : Fin 8 → Fin 32 → Box) (L : Fin 8 → Fin 32 → BitVec 32)
    (C : Fin 8 → Fin n → Fin 80 → EReal) : EReal :=
  Ideal.div (∑ i, clsImg A (B i) (L i) (C i)) eight

def regLoss (A : Fin n → Box) (B : Fin 8 → Fin 32 → Box) (R : Fin 8 → Fin n → Box) : EReal :=
  Ideal.div (∑ i, regImg A (B i) (R i)) eight

/-! ## Identities -/

/-- A sum with one term chosen. -/
theorem sum_pick {m : Nat} (s : Fin m) (h : Fin m → EReal) :
    ∑ g, (if s = g then 1 else 0) * h g = h s := by
  simp [ite_mul]

theorem sum_pick' {m : Nat} (s : Fin m) (h : Fin m → EReal) :
    ∑ g, h g * (if s = g then 1 else 0) = h s := by
  simp [mul_ite]

/-- A finite quantity leaves a sum again. -/
theorem swap_out {x : EReal} (hx : ∃ r : ℝ, x = r) (R P : EReal) : x + R + (P - x) = P + R := by
  obtain ⟨r, rfl⟩ := hx
  have h0 : (r : EReal) + ((-r : ℝ) : EReal) = 0 := by rw [← EReal.coe_add, add_neg_cancel, EReal.coe_zero]
  calc (r : EReal) + R + (P - r) = (P + R) + (r + ((-r : ℝ) : EReal)) := by
        rw [sub_eq_add_neg, ← EReal.coe_neg]; abel
    _ = P + R := by rw [h0, add_zero]

/-- A score below one has a finite loss where its class is absent. -/
theorem negL_real {c : EReal} (h : ∃ r : ℝ, c = r ∧ r < 1) : ∃ r : ℝ, negL c = r := by
  obtain ⟨r, rfl, hr⟩ := h
  have h1 : (1 : EReal) - (r : EReal) = ((1 - r : ℝ) : EReal) := by norm_cast
  refine ⟨3 / 4 * r * r * (0 - Real.log (1 - r)), ?_⟩
  have hl : Ideal.log ((1 - r : ℝ) : EReal) = ((Real.log (1 - r) : ℝ) : EReal) := by
    show (if (1 - r) ≤ 0 then (⊥ : EReal) else _) = _
    rw [if_neg (by linarith)]
  rw [negL, h1, hl, tq_eq]
  norm_cast

/-- The class loss of an anchor from the loss of an anchor without class and a correction at its label. -/
theorem clsAt_eq (a : Box) (B : Fin 32 → Box) (L : Fin 32 → BitVec 32) (C : Fin 80 → EReal) (l : Fin 80)
    (hl : lab a B L = BitVec.ofNat 32 l) (hC : ∀ c, ∃ r : ℝ, C c = r ∧ r < 1) :
    clsAt a B L C = (∑ c, negL (C c))
      + (cntAt a B * posL (C l) - (if p4 ≤ best (ious a B) then 1 else 0) * negL (C l)) := by
  classical
  have heq : ∀ c : Fin 80, (lab a B L = BitVec.ofNat 32 c) = (c = l) := fun c => by
    rw [hl]; refine propext ⟨fun h => ?_, fun h => by rw [h]⟩
    have := congrArg BitVec.toNat h
    simp only [BitVec.toNat_ofNat] at this
    have h1 := c.2; have h2 := l.2
    exact Fin.ext (by omega)
  have hr := negL_real (hC l)
  have hs : ∀ f : Fin 80 → EReal, (∑ c, f c) = f l + ∑ c ∈ Finset.univ.erase l, f c := fun f =>
    (Finset.add_sum_erase _ f (Finset.mem_univ l)).symm
  have he : ∀ p t : Prop, (∑ c ∈ Finset.univ.erase l, term p t (c = l) (C c))
      = ∑ c ∈ Finset.univ.erase l, negL (C c) := fun p t => Finset.sum_congr rfl fun c hc => by
    have := Finset.ne_of_mem_erase hc
    simp [term, this]
  unfold clsAt cntAt
  simp only [heq]
  by_cases hp : half ≤ best (ious a B)
  · have ht : p4 ≤ best (ious a B) := le_trans p4_lt_half.le hp
    rw [hs (fun c => negL (C c)), hs, he, if_pos hp, if_pos ht, one_mul, one_mul, swap_out hr]
    simp [term, hp]
  · by_cases ht : p4 ≤ best (ious a B)
    · rw [hs (fun c => negL (C c)), hs, he, if_neg hp, if_pos ht, zero_mul, one_mul, swap_out hr]
      simp [term, hp, ht]
    · rw [if_neg hp, if_neg ht, zero_mul, zero_mul, sub_zero, add_zero]
      simp [term, hp, ht]

/-- A mean of eight is a sum of eighths. -/
theorem div_eight (y : Fin 8 → EReal) : Ideal.div (∑ i, y i) eight = ∑ i, y i * eighth := by
  have h8 : eight ≠ 0 := by rw [eight_eq]; exact_mod_cast (by norm_num : (8 : ℝ) ≠ 0)
  have hi : eight⁻¹ = eighth := by rw [eight_eq, eighth_eq, EReal.coe_inv]
  have h0 : 0 ≤ eighth := by rw [eighth_eq]; exact_mod_cast (by norm_num : (0 : ℝ) ≤ 8⁻¹)
  have ht : eighth ≠ ⊤ := by rw [eighth_eq]; exact EReal.coe_ne_top _
  rw [Ideal.div, if_neg h8, hi]
  simp only [Fin.sum_univ_eight, EReal.right_distrib_of_nonneg_of_ne_top h0 ht]

/-- The square as a power. -/
theorem pow_two {c : EReal} (h : ∃ r : ℝ, c = r) : Ideal.pow c two = c * c := by
  obtain ⟨r, rfl⟩ := h
  rw [two_eq, Ideal.pow_coe_coe, show Real.rpow r 2 = r * r by rw [← sq]; exact Real.rpow_two r]
  norm_cast

/-- The reference's loss of a score is its term. -/
theorem focal_target {p t h : Prop} (hpt : p → t) {c : EReal} (hc : ∃ r : ℝ, c = r ∧ r < 1) :
    focal (target p t h) c = term p t h c := by
  classical
  have hc1 : ∃ r : ℝ, 1 - c = r := by obtain ⟨r, rfl, -⟩ := hc; exact ⟨1 - r, by norm_cast⟩
  have h01 := negOne_ne_zero
  have h11 := negOne_ne_one
  have hpow := pow_two (let ⟨r, h, _⟩ := hc; ⟨r, h⟩ : ∃ r : ℝ, c = r)
  unfold focal target term
  by_cases hh : h
  · by_cases hp : p
    · simp [hh, hp, h11.symm, posL, pow_two hc1, mul_assoc]
    · by_cases ht : t
      · simp [hh, hp, ht]
      · simp [hh, hp, ht, h01.symm, negL, hpow, mul_assoc]
  · simp [hh, h01.symm, negL, hpow, mul_assoc]

/-- Anchors in equal blocks. -/
theorem sum_blocks (f : Fin 49104 → EReal) :
    ∑ x, f x = ∑ j : Fin 6, ∑ y : Fin 8184, f ⟨j * 8184 + y, by omega⟩ := by
  rw [← Fintype.sum_prod_type' (fun (j : Fin 6) (y : Fin 8184) => f ⟨j * 8184 + y, by omega⟩)]
  refine (Fintype.sum_equiv (finProdFinEquiv (m := 6) (n := 8184)) _ _ fun p => ?_).symm
  refine congrArg f (Fin.ext ?_)
  simp [finProdFinEquiv, Nat.mul_comm, Nat.add_comm]

end Cert.Spec
-- ==== Proof.Windows.lean ====
module

public import proofs.«01_k».proof.Proof.Run
public import proofs.«01_k».proof.Proof.Spec
public import Idealize.ShloMosaic.Lib.StableHlo.ReadAt
public import Idealize.ShloMosaic.Lib.Pointwise
public import Idealize.ShloMosaic.Lib.Pipeline.ValueKit.Point
public import Idealize.ShloMosaic.PureOps.Ideal.Laws

@[expose] public section

set_option maxRecDepth 16384

noncomputable section

namespace Cert.KernelIdeal.Body

open Idealize.ShloMosaic Idealize.ShloMosaic.StableHlo
open Cert.KernelIdeal Cert.KernelIdeal.Gen

/-! # What each block of the kernel holds

Grid point `t` works on image `t / 6` and on the anchors `t % 6 * 8184 .. + 8183`.  The lines before the kernel
lay the arguments out for it: the labels as one-hot rows, the boxes transposed, the anchors and the regressions
transposed and cut into six runs of anchors.  Each block is read here as an entry of an argument. -/

variable (m : (ℓ : Loc nD τ sig) → Buf (Elt Ideal) ℓ) (d : Dev nD)

/-- The coordinates of anchor `x`. -/
abbrev ancOf (x : Fin 49104) : Spec.Box := fun k => m ((d.tc : Thread nD τ).loc main_arg2) (ix2 x k)
/-- The boxes of image `i`. -/
abbrev boxOf (i : Fin 8) : Fin 32 → Spec.Box := fun g k => m ((d.tc : Thread nD τ).loc main_arg4) (ix3 i g k)
/-- The labels of image `i`. -/
abbrev labOf (i : Fin 8) : Fin 32 → BitVec 32 := fun g => m ((d.tc : Thread nD τ).loc main_arg3) (ix2 i g)
/-- The class scores of image `i`. -/
abbrev clsOf (i : Fin 8) (x : Fin 49104) : Fin 80 → EReal := fun c => m ((d.tc : Thread nD τ).loc main_arg0) (ix3 i x c)
/-- The regressions of image `i`. -/
abbrev regOf (i : Fin 8) (x : Fin 49104) : Spec.Box := fun k => m ((d.tc : Thread nD τ).loc main_arg1) (ix3 i x k)

/-- Which block of its array each input window holds at a grid point. -/
theorem idx : ∀ t : Fin cfg0.N,
    win0_0.index t = ![t.val / 6, 0, 0] ∧ win0_1.index t = ![t.val / 6, 0, 0] ∧ win0_2.index t = ![t.val / 6, 0, 0]
    ∧ win0_3.index t = ![t.val % 6, 0, 0] ∧ win0_4.index t = ![t.val / 6, t.val % 6, 0]
    ∧ win0_5.index t = ![t.val / 6, t.val % 6, 0, 0] ∧ t.val / 6 < 8 ∧ t.val % 6 < 6 :=
  (by decide +kernel : ∀ t : Fin grid0.N, _)

/-- The image of a grid point. -/
def img (t : Fin cfg0.N) : Fin 8 := ⟨t.val / 6, by have := idx t; omega⟩
/-- The run of anchors of a grid point. -/
def seg (t : Fin cfg0.N) : Fin 6 := ⟨t.val % 6, by omega⟩
/-- The `y`-th anchor of a grid point's run. -/
def anc (j : Fin 6) (y : Fin 8184) : Fin 49104 := ⟨j.val * 8184 + y.val, by omega⟩

theorem host0 (i : Fin 8) (g : Fin 32) (c : Fin 80) :
    V m d main_v0 (ix3 i g c) = FloatOps.uitofp (F := Ideal) FTy.f32 (IntOp.cmpi .eq (labOf m d i g) (BitVec.ofNat 32 c.val)) := by
  simp only [V, V0, List.flatten_cons, List.flatten_nil, List.append_nil, List.cons_append, List.nil_append]
  after_reads_at

theorem host1 (i : Fin 8) (g : Fin 32) (k : Fin 4) : V m d main_v1 (ix3 i k g) = boxOf m d i g k := by
  simp only [V, V0, List.flatten_cons, List.flatten_nil, List.append_nil, List.cons_append, List.nil_append]
  after_reads_at

theorem host4 (j : Fin 6) (k : Fin 4) (y : Fin 8184) : V m d main_v4 (ix3 j k y) = ancOf m d (anc j y) k := by
  simp only [V, V0, List.flatten_cons, List.flatten_nil, List.append_nil, List.cons_append, List.nil_append]
  after_reads_at
  pointwise
  rfl

theorem host7 (i : Fin 8) (j : Fin 6) (k : Fin 4) (y : Fin 8184) : V m d main_v7 (ix4 i j k y) = regOf m d i (anc j y) k := by
  simp only [V, V0, List.flatten_cons, List.flatten_nil, List.append_nil, List.cons_append, List.nil_append]
  after_reads_at
  pointwise
  rfl

variable (t : Fin cfg0.N) (g : Fin 32) (c : Fin 80) (k : Fin 4) (y : Fin 8184)

theorem win0 : iblk m d 0 t (ix3 0 g c)
    = FloatOps.uitofp (F := Ideal) FTy.f32 (IntOp.cmpi .eq (labOf m d (img t) g) (BitVec.ofNat 32 c.val)) := by
  rw [← host0]; unfold img; blk_ext! [iblk, idx t]

theorem win1 : iblk m d 1 t (ix3 0 g k) = boxOf m d (img t) g k := by
  unfold img; blk_ext! [iblk, V_main_arg4, idx t]

theorem win2 : iblk m d 2 t (ix3 0 k g) = boxOf m d (img t) g k := by
  rw [← host1]; unfold img; blk_ext! [iblk, idx t]

theorem win3 : iblk m d 3 t (ix3 0 k y) = ancOf m d (anc (seg t) y) k := by
  rw [← host4]; unfold seg; blk_ext! [iblk, idx t]

theorem win4 : iblk m d 4 t (ix3 0 y c) = clsOf m d (img t) (anc (seg t) y) c := by
  unfold img seg anc; blk_ext! [iblk, V_main_arg0, idx t]

theorem win5 : iblk m d 5 t (ix4 0 0 k y) = regOf m d (img t) (anc (seg t) y) k := by
  rw [← host7]; unfold img seg; blk_ext! [iblk, idx t]

end Cert.KernelIdeal.Body
end
-- ==== Proof.Pick.lean ====
/- The two programs' ways of finding the box an anchor overlaps most, and the reference's table reads at it. -/
module

public import proofs.«01_k».proof.Proof.Spec
public import proofs.«01_k».proof.ReferenceIdeal
public import proofs.«01_k».proof.KernelIdeal
public import Idealize.ShloMosaic.Lib.Pointwise

@[expose] public section

set_option maxRecDepth 16384

noncomputable section

namespace Cert.Spec

open Idealize.ShloMosaic

/-! ## The kernel: the least coordinate among the extreme ones -/

section Kernel
open Cert.KernelIdeal

variable (v : FVec Ideal S32x8184 .f32) (h : S32x8184.Reduces [0] S8184)

theorem drop_ix2 (g : Fin 32) (y : Fin 8184) : h.drop (ix2 g y) = ix1 y := by
  funext b; match b with
  | ⟨0, _⟩ => exact Fin.ext (h.drop_apply_val_of_eq (ix2 g y) 0 1)

theorem eq_of_drop (i : S32x8184.Idx) (y : Fin 8184) (hi : h.drop i = ix1 y) : ∃ g : Fin 32, i = ix2 g y := by
  have h1 : (h.drop i 0 : Nat) = i 1 := h.drop_apply_val_of_eq i 0 1
  rw [hi] at h1
  refine ⟨i 0, funext fun b => ?_⟩
  match b with
  | ⟨0, _⟩ => rfl
  | ⟨1, _⟩ => exact Fin.ext h1.symm

theorem reduceIndex_eq (y : Fin 8184) :
    Ideal.reduceIndex .argMax 0 h v (ix1 y) = BitVec.ofNat 32 (sel fun g => v (ix2 g y)) := by
  have hs := sel_spec fun g => v (ix2 g y)
  unfold Ideal.reduceIndex
  dsimp only
  refine congrArg (BitVec.ofNat 32) ?_
  have key : ∀ (T : Finset Nat) (s : Nat), s ∈ T → (∀ t ∈ T, s ≤ t) → T.min.getD 0 = s := fun T s h1 h2 => by
    rw [le_antisymm (Finset.min_le h1) (Finset.le_min fun t ht => WithTop.coe_le_coe.2 (h2 t ht))]; rfl
  refine key _ _ ?_ ?_
  · refine Finset.mem_image.2 ⟨ix2 (sel fun g => v (ix2 g y)) y, ?_, rfl⟩
    simp only [Finset.mem_filter, Finset.mem_univ, true_and, drop_ix2, if_true, not_lt]
    intro i hi
    obtain ⟨g, rfl⟩ := eq_of_drop h i y hi
    exact hs.1 g
  · intro t ht
    obtain ⟨i, hi, rfl⟩ := Finset.mem_image.1 ht
    simp only [Finset.mem_filter, Finset.mem_univ, true_and, if_true, not_lt] at hi
    obtain ⟨g, rfl⟩ := eq_of_drop h i y hi.1
    have h1 := hi.2 (ix2 (sel fun g => v (ix2 g y)) y) (drop_ix2 h _ y)
    exact hs.2 g (le_antisymm (hs.1 g) h1)

end Kernel

/-! ## The reference: a fold over (value, index) pairs -/

section Fold
open Cert.ReferenceIdeal

theorem slt_small (n k : Nat) (hn : n < 32) (hk : k < 32) :
    (BitVec.ofNat 32 n).slt (BitVec.ofNat 32 k) = decide (n < k) :=
  (by decide +kernel : ∀ n k : Fin 32, (BitVec.ofNat 32 n).slt (BitVec.ofNat 32 k) = decide (n.val < k.val)) ⟨n, hn⟩ ⟨k, hk⟩

/-- One step keeps the greater value, at equal values the smaller index. -/
theorem step (v w : EReal) (n k : Nat) (hn : n < 32) (hk : k < 32) :
    reducer_argmax_f32_i32 (F := Ideal) (v, BitVec.ofNat 32 n) (w, BitVec.ofNat 32 k)
      = if w < v ∨ (v = w ∧ n < k) then (v, BitVec.ofNat 32 n) else (w, BitVec.ofNat 32 k) := by
  unfold reducer_argmax_f32_i32
  rcases lt_trichotomy w v with hlt | heq | hgt
  · have hne : ¬ v = w := hlt.ne'
    simp [hlt, hne, Ideal.cmpf_def, Ideal.cmp, IntOp.ori, IntOp.andi, Scalar.select]
  · subst heq
    by_cases hnk : n < k
    · simp [Ideal.cmpf_def, Ideal.cmp, IntOp.ori, IntOp.andi, IntOp.cmpi, Scalar.select, slt_small n k hn hk, hnk]
    · simp [Ideal.cmpf_def, Ideal.cmp, IntOp.ori, IntOp.andi, IntOp.cmpi, Scalar.select, slt_small n k hn hk, hnk]
  · have h1 : ¬ w < v := hgt.not_gt
    have h2 : ¬ v = w := hgt.ne
    simp [h1, h2, Ideal.cmpf_def, Ideal.cmp, IntOp.ori, IntOp.andi, Scalar.select]

theorem fold_spec (f : Fin 32 → EReal) (ks : List (Fin 32)) : ∀ (v : EReal) (n : Nat), n < 32 →
    ∃ v' n', (ks.map fun g => (f g, BitVec.ofNat 32 g)).foldl (reducer_argmax_f32_i32 (F := Ideal)) (v, BitVec.ofNat 32 n)
        = (v', BitVec.ofNat 32 n') ∧ n' < 32 ∧ ((v' = v ∧ n' = n) ∨ ∃ g ∈ ks, v' = f g ∧ n' = g.val)
      ∧ v ≤ v' ∧ (v = v' → n' ≤ n) ∧ ∀ g ∈ ks, f g ≤ v' ∧ (f g = v' → n' ≤ g.val) := by
  induction ks with
  | nil => intro v n hn; exact ⟨v, n, rfl, hn, Or.inl ⟨rfl, rfl⟩, le_rfl, fun _ => le_rfl, by simp⟩
  | cons k ks ih =>
    intro v n hn
    rw [List.map_cons, List.foldl_cons, step v (f k) n k hn k.2]
    by_cases hc : f k < v ∨ (v = f k ∧ n < k.val)
    · rw [if_pos hc]
      obtain ⟨v', n', h1, h2, h3, h4, h5, h6⟩ := ih v n hn
      refine ⟨v', n', h1, h2, ?_, h4, h5, ?_⟩
      · rcases h3 with h3 | ⟨g, hg, h3⟩
        · exact Or.inl h3
        · exact Or.inr ⟨g, List.mem_cons_of_mem _ hg, h3⟩
      · intro g hg
        rcases List.mem_cons.1 hg with rfl | hg
        · rcases hc with hc | ⟨hc, hlt⟩
          · exact ⟨(hc.trans_le h4).le, fun e => absurd e (hc.trans_le h4).ne⟩
          · rw [← hc]; exact ⟨h4, fun e => (h5 e).trans hlt.le⟩
        · exact h6 g hg
    · rw [if_neg hc]
      obtain ⟨v', n', h1, h2, h3, h4, h5, h6⟩ := ih (f k) k k.2
      have hvk : v ≤ f k := not_lt.1 fun h => hc (Or.inl h)
      refine ⟨v', n', h1, h2, Or.inr ?_, hvk.trans h4, ?_, ?_⟩
      · rcases h3 with h3 | ⟨g, hg, h3⟩
        · exact ⟨k, List.mem_cons_self, h3⟩
        · exact ⟨g, List.mem_cons_of_mem _ hg, h3⟩
      · intro e
        have hk : v = f k := le_antisymm hvk (e ▸ h4)
        have h7 := h5 (hk ▸ e)
        have h8 : ¬ n < k.val := fun h => hc (Or.inr ⟨hk, h⟩)
        omega
      · intro g hg
        rcases List.mem_cons.1 hg with rfl | hg
        · exact ⟨h4, h5⟩
        · exact h6 g hg

theorem fold_sel (f : Fin 32 → EReal) (ks : List (Fin 32)) (hks : ∀ g, g ∈ ks) :
    ((ks.map fun g => (f g, BitVec.ofNat 32 g)).foldl (reducer_argmax_f32_i32 (F := Ideal)) (⊥, BitVec.ofNat 32 0)).2
      = BitVec.ofNat 32 (sel f) := by
  obtain ⟨v', n', h1, h2, h3, -, -, h6⟩ := fold_spec f ks ⊥ 0 (by norm_num)
  rw [h1]
  rcases h3 with ⟨rfl, rfl⟩ | ⟨g, -, rfl, rfl⟩
  · have hb : ∀ g, f g = ⊥ := fun g => le_bot_iff.1 (h6 g (hks g)).1
    rw [← sel_eq (f := f) (s := 0) ⟨fun g => by rw [hb, hb], fun g _ => Nat.zero_le _⟩]; rfl
  · rw [← sel_eq (f := f) (s := g) ⟨fun k => (h6 k (hks k)).1, fun k e => (h6 k (hks k)).2 e⟩]

variable (h : S8x49104x32.ReducesTo [2] S8x49104)

theorem eq_of_dropTo (n : S8x49104x32.Idx) (i : Fin 8) (x : Fin 49104) (hn : h.drop n = ix2 i x) :
    n = ix3 i x (n 2) := by
  have h0 : (h.drop n 0 : Nat) = n 0 := h.drop_apply_val_of_eq n 0 0
  have h1 : (h.drop n 1 : Nat) = n 1 := h.drop_apply_val_of_eq n 1 1
  rw [hn] at h0 h1
  funext b; match b with
  | ⟨0, _⟩ => exact Fin.ext h0.symm
  | ⟨1, _⟩ => exact Fin.ext h1.symm
  | ⟨2, _⟩ => rfl

theorem dropTo_ix3 (i : Fin 8) (x : Fin 49104) (g : Fin 32) : h.drop (ix3 i x g) = ix2 i x := by
  funext b; match b with
  | ⟨0, _⟩ => exact Fin.ext (h.drop_apply_val_of_eq (ix3 i x g) 0 0)
  | ⟨1, _⟩ => exact Fin.ext (h.drop_apply_val_of_eq (ix3 i x g) 1 1)

theorem argReduce_eq (v : FVec Ideal S8x49104x32 .f32) (hu : 0 < S_.numel) (i : Fin 8) (x : Fin 49104) :
    (Host.argReduce (reducer_argmax_f32_i32 (F := Ideal)) v (iotaInDim S8x49104x32 32 2)
        (constant (F := Ideal) S_ .f32 4286578688#32) (constantI S_ 32 0#32) h hu (ix2 i x)).2
      = BitVec.ofNat 32 (sel fun g => v (ix3 i x g)) := by
  rw [Ideal.argReduce_eq_reduce2, Host.reduce2_eq_foldl_fiber]
  rw [show (constant (F := Ideal) S_ .f32 4286578688#32 (Shape.Idx.first hu), constantI S_ 32 0#32 (Shape.Idx.first hu))
      = ((⊥ : EReal), BitVec.ofNat 32 0) from Prod.ext lowest_eq rfl]
  let ks : List (Fin 32) := ((List.finRange S8x49104x32.numel).filter fun n =>
    h.drop (S8x49104x32.rowMajor.symm n) = ix2 i x).map fun n => (S8x49104x32.rowMajor.symm n) 2
  have hf : Host.argReduceFiber v (iotaInDim S8x49104x32 32 2) h (ix2 i x)
      = ks.map fun g => (v (ix3 i x g), BitVec.ofNat 32 g) := by
    rw [Host.argReduceFiber]
    refine Eq.trans ?_ List.map_map.symm
    refine List.map_congr_left fun n hn => ?_
    have hd := (List.mem_filter.1 hn).2
    have e := eq_of_dropTo h _ i x (of_decide_eq_true hd)
    refine Prod.ext ?_ rfl
    exact congrArg v e
  rw [hf]
  refine fold_sel _ ks fun g => ?_
  refine List.mem_map.2 ⟨S8x49104x32.rowMajor (ix3 i x g), List.mem_filter.2 ⟨List.mem_finRange _, ?_⟩, ?_⟩
  · rw [Equiv.symm_apply_apply]; exact decide_eq_true (dropTo_ix3 h i x g)
  · rw [Equiv.symm_apply_apply]; rfl

end Fold

/-! ## The reference's table reads -/

section Gather
open Cert.ReferenceIdeal

theorem toInt_small (s : Fin 32) : min (BitVec.ofNat 32 s.val).toInt.toNat 31 = s.val :=
  (by decide +kernel : ∀ s : Fin 32, min (BitVec.ofNat 32 s.val).toInt.toNat 31 = s.val) s

variable {α : Type} [Facts₀]

theorem gather_labels (t : S8x32.Idx → α) (idx : IVec S8x49104x1 32) (i : Fin 8) (x : Fin 49104) (s : Fin 32)
    (hs : idx (ix3 i x 0) = BitVec.ofNat 32 s) :
    Host.gather gather_S8x32_S8x49104x1_S8x49104_n_1_0_0_1_2_11 t idx (ix2 i x) = t (ix2 i s) := by
  have hsi : ∀ k, (gather_S8x32_S8x49104x1_S8x49104_n_1_0_0_1_2_11).siIdx (ix2 i x) k = ix3 i x 0 := fun k => by
    funext b; refine Fin.ext ?_
    match b with
    | ⟨0, _⟩ => rfl
    | ⟨1, _⟩ => rfl
    | ⟨2, _⟩ =>
      have := k.2
      show k.val = 0
      have hk : k.val < 1 := this
      omega
  unfold Host.gather
  congr 1
  funext a
  refine Fin.ext ?_
  show (gather_S8x32_S8x49104x1_S8x49104_n_1_0_0_1_2_11).start (ix2 i x) idx a
    + (gather_S8x32_S8x49104x1_S8x49104_n_1_0_0_1_2_11).batchCoord (ix2 i x) a
    + (gather_S8x32_S8x49104x1_S8x49104_n_1_0_0_1_2_11).offCoord (ix2 i x) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin S8x32.rank) ∈
      (gather_S8x32_S8x49104x1_S8x49104_n_1_0_0_1_2_11).operandBatchingDims from List.mem_singleton.mpr rfl)]
    rfl
  | ⟨1, _⟩ =>
    rw [GatherDims.batchCoord_eq_zero _ _ _ (fun h => by simp [gather_S8x32_S8x49104x1_S8x49104_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin S8x32.rank) ∈ (gather_S8x32_S8x49104x1_S8x49104_n_1_0_0_1_2_11).startIndexMap
      from List.mem_singleton.mpr rfl), hsi, hs]
    exact toInt_small s

theorem gather_boxes (t : S8x32x4.Idx → α) (idx : IVec S8x49104x1 32) (i : Fin 8) (x : Fin 49104) (k : Fin 4) (s : Fin 32)
    (hs : idx (ix3 i x 0) = BitVec.ofNat 32 s) :
    Host.gather gather_S8x32x4_S8x49104x1_S8x49104x4_2_1_0_0_1_2_114 t idx (ix3 i x k) = t (ix3 i s k) := by
  have hsi : ∀ q, (gather_S8x32x4_S8x49104x1_S8x49104x4_2_1_0_0_1_2_114).siIdx (ix3 i x k) q = ix3 i x 0 := fun q => by
    funext b; refine Fin.ext ?_
    match b with
    | ⟨0, _⟩ => rfl
    | ⟨1, _⟩ => rfl
    | ⟨2, _⟩ =>
      have hk : q.val < 1 := q.2
      show q.val = 0
      omega
  unfold Host.gather
  congr 1
  funext a
  refine Fin.ext ?_
  show (gather_S8x32x4_S8x49104x1_S8x49104x4_2_1_0_0_1_2_114).start (ix3 i x k) idx a
    + (gather_S8x32x4_S8x49104x1_S8x49104x4_2_1_0_0_1_2_114).batchCoord (ix3 i x k) a
    + (gather_S8x32x4_S8x49104x1_S8x49104x4_2_1_0_0_1_2_114).offCoord (ix3 i x k) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin S8x32x4.rank) ∈
      (gather_S8x32x4_S8x49104x1_S8x49104x4_2_1_0_0_1_2_114).operandBatchingDims from List.mem_singleton.mpr rfl)]
    rfl
  | ⟨1, _⟩ =>
    rw [GatherDims.batchCoord_eq_zero _ _ _ (fun h => by simp [gather_S8x32x4_S8x49104x1_S8x49104x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin S8x32x4.rank) ∈ (gather_S8x32x4_S8x49104x1_S8x49104x4_2_1_0_0_1_2_114).startIndexMap
      from List.mem_singleton.mpr rfl), hsi, hs]
    exact toInt_small s
  | ⟨2, _⟩ =>
    rw [GatherDims.batchCoord_eq_zero _ _ _ (fun h => by simp [gather_S8x32x4_S8x49104x1_S8x49104x4_2_1_0_0_1_2_114] at h)]
    unfold GatherDims.start
    rw [dif_neg (fun h => by simp [gather_S8x32x4_S8x49104x1_S8x49104x4_2_1_0_0_1_2_114] at h)]
    simp only [Nat.zero_add, Nat.add_zero]
    unfold GatherDims.offCoord
    rw [dif_pos ((GatherDims.mem_sKept _ _).mpr ⟨by simp [gather_S8x32x4_S8x49104x1_S8x49104x4_2_1_0_0_1_2_114],
      by simp [gather_S8x32x4_S8x49104x1_S8x49104x4_2_1_0_0_1_2_114]⟩)]
    rfl

end Gather

end Cert.Spec
-- ==== Proof.Block.lean ====
module

public import proofs.«01_k».proof.Proof.Run
public import proofs.«01_k».proof.Proof.Pick
public import Idealize.ShloMosaic.Lib.StableHlo.ReadAt
public import Idealize.ShloMosaic.Lib.Pointwise
public import Idealize.ShloMosaic.Lib.Pipeline.ValueKit.Point
public import Idealize.ShloMosaic.PureOps.Ideal.Laws

@[expose] public section

set_option maxRecDepth 16384

noncomputable section

namespace Cert.KernelIdeal.Body

open Idealize.ShloMosaic Idealize.ShloMosaic.StableHlo
open Cert.KernelIdeal Cert.KernelIdeal.Gen

/-! # One grid point's sums

The values a grid point computes from its six blocks are the anchor sums of `Spec`, taken over the point's anchors. -/

variable (x0 : Vec Ideal S1x32x80 .f32) (x1 : Vec Ideal S1x32x4 .f32) (x2 : Vec Ideal S1x4x32 .f32)
  (x3 : Vec Ideal S1x4x8184 .f32) (x4 : Vec Ideal S1x8184x80 .f32) (x5 : Vec Ideal S1x1x4x8184 .f32)
  (y : Fin 8184) (g : Fin 32) (c : Fin 80) (k : Fin 4)

/-- The anchors of a block. -/
abbrev ancB : Spec.Box := fun k => x3 (ix3 0 k y)
/-- The boxes of a block. -/
abbrev boxB : Fin 32 → Spec.Box := fun g k => x1 (ix3 0 g k)
/-- The scores of a block. -/
abbrev clsB : Fin 80 → EReal := fun c => x4 (ix3 0 y c)
/-- The regressions of a block. -/
abbrev regB : Spec.Box := fun k => x5 (ix4 0 0 k y)

/-- The overlap of every anchor with every box. -/
def over : FVec Ideal S32x8184 .f32 :=
  k0_pay23 (k0_pay11 x3) (k0_pay12 x3) (k0_pay13 x3) (k0_pay14 x3) (k0_pay15 x1) (k0_pay16 x1) (k0_pay17 x1) (k0_pay18 x1) (k0_pay21 x3) (k0_pay22 x1)

theorem over_eq : over x1 x3 (ix2 g y) = Spec.ious (ancB x3 y) (boxB x1) g := by
  pointwise [over, k0_pay23, k0_pay11, k0_pay12, k0_pay13, k0_pay14, k0_pay15, k0_pay16, k0_pay17, k0_pay18, k0_pay19, k0_pay20, k0_pay21, k0_pay22, k0_pay6, k0_pay8]
  rfl

theorem best_eq : best x1 x3 (ix2 0 y) = Spec.best (Spec.ious (ancB x3 y) (boxB x1)) := by
  pointwise [best, k0_pay24]
  exact congrArg (fun f => Finset.fold max Spec.lowest f Finset.univ) (funext fun g => over_eq x1 x3 y g)

/-- The mark of each anchor's best box. -/
def mark : FVec Ideal S32x8184 .f32 :=
  k0_pay25 (k0_pay11 x3) (k0_pay12 x3) (k0_pay13 x3) (k0_pay14 x3) (k0_pay15 x1) (k0_pay16 x1) (k0_pay17 x1) (k0_pay18 x1) (k0_pay21 x3) (k0_pay22 x1)

/-- A bit as a number. -/
theorem bit_num (a b : BitVec 32) :
    FloatOps.uitofp (F := Ideal) FTy.f32 (IntOp.cmpi .eq a b) = if a = b then (1 : EReal) else 0 := by
  by_cases h : a = b
  · simp [IntOp.cmpi, h, FloatOps.uitofp]
  · simp [IntOp.cmpi, h, beq_eq_false_iff_ne.2 h, FloatOps.uitofp]

theorem bit_num' (a b : BitVec 32) :
    FloatOps.sitofp (F := Ideal) FTy.f32 (BitVec.setWidth 32 (IntOp.cmpi .eq a b)) = if a = b then (1 : EReal) else 0 := by
  by_cases h : a = b
  · simp [IntOp.cmpi, h, FloatOps.sitofp]
  · simp [IntOp.cmpi, h, beq_eq_false_iff_ne.2 h, FloatOps.sitofp]

theorem small_inj {n : Nat} (hn : n ≤ 80) (s g : Fin n) : (BitVec.ofNat 32 s.val = BitVec.ofNat 32 g.val) = (s = g) := by
  refine propext ⟨fun h => ?_, fun h => by rw [h]⟩
  have := congrArg BitVec.toNat h
  simp only [BitVec.toNat_ofNat] at this
  have h1 := s.2; have h2 := g.2
  exact Fin.ext (by omega)

theorem mark_eq : mark x1 x3 (ix2 g y)
    = if Spec.sel (Spec.ious (ancB x3 y) (boxB x1)) = g then (1 : EReal) else 0 := by
  pointwise [mark, k0_pay25]
  rw [bit_num']
  have h := Spec.reduceIndex_eq (over x1 x3) reduces_S32x8184_S8184 y
  have e : (fun g => over x1 x3 (ix2 g y)) = Spec.ious (ancB x3 y) (boxB x1) := funext fun g => over_eq x1 x3 y g
  rw [e] at h
  simp only [← small_inj (by norm_num : 32 ≤ 80) (Spec.sel (Spec.ious (ancB x3 y) (boxB x1))) g, ← h]
  rfl

theorem picked_eq : picked x0 x1 x3 x4 (ix2 0 y) = ∑ c, x0 (ix3 0 (Spec.sel (Spec.ious (ancB x3 y) (boxB x1))) c) * clsB x4 y c := by
  pointwise [picked, k0_pay31, k0_pay5, k0_pay9]
  rw [← Spec.sum_pick (Spec.sel (Spec.ious (ancB x3 y) (boxB x1))) fun g => ∑ c, x0 (ix3 0 g c) * clsB x4 y c]
  refine Finset.sum_congr rfl fun g _ => ?_
  rw [← mark_eq]
  rfl

theorem box0_eq : boxX0 x1 x2 x3 (ix2 0 y) = x2 (ix3 0 0 (Spec.sel (Spec.ious (ancB x3 y) (boxB x1)))) := by
  pointwise [boxX0, k0_pay27, k0_pay26, k0_pay7]
  rw [← Spec.sum_pick' (Spec.sel (Spec.ious (ancB x3 y) (boxB x1))) fun g => x2 (ix3 0 0 g)]
  refine Finset.sum_congr rfl fun g _ => ?_
  rw [← mark_eq]
  rfl

theorem box1_eq : boxY0 x1 x2 x3 (ix2 0 y) = x2 (ix3 0 1 (Spec.sel (Spec.ious (ancB x3 y) (boxB x1)))) := by
  pointwise [boxY0, k0_pay28, k0_pay26, k0_pay7]
  rw [← Spec.sum_pick' (Spec.sel (Spec.ious (ancB x3 y) (boxB x1))) fun g => x2 (ix3 0 1 g)]
  refine Finset.sum_congr rfl fun g _ => ?_
  rw [← mark_eq]
  rfl

theorem box2_eq : boxX1 x1 x2 x3 (ix2 0 y) = x2 (ix3 0 2 (Spec.sel (Spec.ious (ancB x3 y) (boxB x1)))) := by
  pointwise [boxX1, k0_pay29, k0_pay26, k0_pay7]
  rw [← Spec.sum_pick' (Spec.sel (Spec.ious (ancB x3 y) (boxB x1))) fun g => x2 (ix3 0 2 g)]
  refine Finset.sum_congr rfl fun g _ => ?_
  rw [← mark_eq]
  rfl

theorem box3_eq : boxY1 x1 x2 x3 (ix2 0 y) = x2 (ix3 0 3 (Spec.sel (Spec.ious (ancB x3 y) (boxB x1)))) := by
  pointwise [boxY1, k0_pay30, k0_pay26, k0_pay7]
  rw [← Spec.sum_pick' (Spec.sel (Spec.ious (ancB x3 y) (boxB x1))) fun g => x2 (ix3 0 3 g)]
  refine Finset.sum_congr rfl fun g _ => ?_
  rw [← mark_eq]
  rfl

theorem posf_eq : posf x1 x3 (ix2 0 y) = Spec.cntAt (ancB x3 y) (boxB x1) := by
  unfold Spec.cntAt
  rw [← best_eq]
  pointwise [posf, k0_pay32]
  by_cases h : Spec.half ≤ best x1 x3 (ix2 0 y)
  · rw [if_pos h]; exact if_pos h
  · rw [if_neg h]; exact if_neg h

/-- The number of positive anchors. -/
theorem count_eq : count x1 x3 = Spec.cntSum (ancB x3) (boxB x1) := by
  pointwise [count, k0_pay35, k0_pay36]
  rw [Fin.sum_univ_one]
  exact Finset.sum_congr rfl fun y _ => posf_eq x1 x3 y

theorem dense_eq : dense x4 = ∑ y, ∑ c, Spec.negL (clsB x4 y c) := by
  pointwise [dense, k0_pay33, k0_pay9]
  rfl

open Classical in
theorem corr_eq : corr x0 x1 x3 x4 = ∑ y, (Spec.cntAt (ancB x3 y) (boxB x1) * Spec.posL (picked x0 x1 x3 x4 (ix2 0 y))
    - (if Spec.p4 ≤ Spec.best (Spec.ious (ancB x3 y) (boxB x1)) then 1 else 0) * Spec.negL (picked x0 x1 x3 x4 (ix2 0 y))) := by
  pointwise [corr, k0_pay34]
  rw [Fin.sum_univ_one]
  refine Finset.sum_congr rfl fun y _ => ?_
  rw [← posf_eq, ← best_eq]
  congr

/-- The class loss. -/
theorem cls_eq (L : Fin 32 → BitVec 32) (h0 : ∀ g c, x0 (ix3 0 g c) = FloatOps.uitofp (F := Ideal) FTy.f32 (IntOp.cmpi .eq (L g) (BitVec.ofNat 32 c.val)))
    (hL : ∀ g, ∃ l : Fin 80, L g = BitVec.ofNat 32 l.val) (hC : ∀ y c, ∃ r : ℝ, clsB x4 y c = r ∧ r < 1) :
    dense x4 + corr x0 x1 x3 x4 = Spec.clsSum (ancB x3) (boxB x1) L (clsB x4) := by
  show @Eq EReal _ _
  rw [dense_eq, corr_eq, ← Finset.sum_add_distrib]
  refine Finset.sum_congr rfl fun y _ => ?_
  obtain ⟨l, hl⟩ := hL (Spec.sel (Spec.ious (ancB x3 y) (boxB x1)))
  rw [Spec.clsAt_eq _ _ _ _ l hl (hC y)]
  have hp : picked x0 x1 x3 x4 (ix2 0 y) = clsB x4 y l := by
    rw [picked_eq, ← Spec.sum_pick l (clsB x4 y)]
    refine Finset.sum_congr rfl fun c _ => ?_
    rw [h0, bit_num, hl]
    simp only [small_inj le_rfl]
  rw [hp]

/-- The loss of one coordinate. -/
theorem smooth_of (d e : EReal) (h : d = e) :
    (if FloatOps.absf (F := Ideal) (φ := .f32) d < Spec.beta then Ideal.div (Spec.half * FloatOps.absf (F := Ideal) (φ := .f32) d * FloatOps.absf (F := Ideal) (φ := .f32) d) Spec.beta
      else FloatOps.absf (F := Ideal) (φ := .f32) d - Spec.hbeta) = Spec.smooth e := by
  subst h; rfl

theorem reg_read : k0_pay10 x5 (ix2 k y) = regB x5 y k := by
  pointwise [k0_pay10]

theorem anc_read : k0_pay11 x3 (ix2 0 y) = ancB x3 y 0 ∧ k0_pay12 x3 (ix2 0 y) = ancB x3 y 1
    ∧ k0_pay19 x3 (ix2 0 y) = ancB x3 y 2 - ancB x3 y 0 ∧ k0_pay20 x3 (ix2 0 y) = ancB x3 y 3 - ancB x3 y 1 := by
  refine ⟨?_, ?_, ?_, ?_⟩
  · pointwise [k0_pay11, k0_pay8]
  · pointwise [k0_pay12, k0_pay8]
  · pointwise [k0_pay19, k0_pay11, k0_pay13, k0_pay8]
  · pointwise [k0_pay20, k0_pay12, k0_pay14, k0_pay8]

/-- The box loss. -/
theorem reg_eq (h2 : ∀ g k, x2 (ix3 0 k g) = x1 (ix3 0 g k)) :
    regs x1 x2 x3 x5 = Spec.regSum (ancB x3) (boxB x1) (regB x5) := by
  pointwise [regs, k0_pay37]
  rw [Fin.sum_univ_one]
  refine Finset.sum_congr rfl fun y _ => ?_
  unfold Spec.regAt
  rw [← posf_eq]
  refine congrArg (HMul.hMul (posf x1 x3 (ix2 0 y))) (Finset.sum_congr rfl fun k _ => ?_)
  refine smooth_of _ _ ?_
  rw [reg_read]
  refine congrArg (HSub.hSub (regB x5 y k)) ?_
  obtain ⟨r0, r1, r2, r3⟩ := anc_read x3 y
  have e0 := box0_eq x1 x2 x3 y
  have e1 := box1_eq x1 x2 x3 y
  have e2 := box2_eq x1 x2 x3 y
  have e3 := box3_eq x1 x2 x3 y
  rw [h2] at e0 e1 e2 e3
  match k with
  | 0 =>
    refine (dif_pos (by decide)).trans ?_
    show Ideal.div (boxX0 x1 x2 x3 (ix2 0 y) + Spec.half * (boxX1 x1 x2 x3 (ix2 0 y) - boxX0 x1 x2 x3 (ix2 0 y))
      - (k0_pay11 x3 (ix2 0 y) + Spec.half * k0_pay19 x3 (ix2 0 y))) (k0_pay19 x3 (ix2 0 y)) = _
    rw [e0, e2, r0, r2]; rfl
  | 1 =>
    refine (dif_neg (by decide)).trans ((dif_pos (by decide)).trans ?_)
    show Ideal.div (boxY0 x1 x2 x3 (ix2 0 y) + Spec.half * (boxY1 x1 x2 x3 (ix2 0 y) - boxY0 x1 x2 x3 (ix2 0 y))
      - (k0_pay12 x3 (ix2 0 y) + Spec.half * k0_pay20 x3 (ix2 0 y))) (k0_pay20 x3 (ix2 0 y)) = _
    rw [e1, e3, r1, r3]; rfl
  | 2 =>
    refine (dif_neg (by decide)).trans ((dif_neg (by decide)).trans ((dif_pos (by decide)).trans ?_))
    show Ideal.log (Ideal.div (boxX1 x1 x2 x3 (ix2 0 y) - boxX0 x1 x2 x3 (ix2 0 y)) (k0_pay19 x3 (ix2 0 y))) = _
    rw [e0, e2, r2]; rfl
  | 3 =>
    refine (dif_neg (by decide)).trans ((dif_neg (by decide)).trans ((dif_neg (by decide)).trans ?_))
    show Ideal.log (Ideal.div (boxY1 x1 x2 x3 (ix2 0 y) - boxY0 x1 x2 x3 (ix2 0 y)) (k0_pay20 x3 (ix2 0 y))) = _
    rw [e1, e3, r3]; rfl

end Cert.KernelIdeal.Body
end
-- ==== Proof.Accum.lean ====
module

public import proofs.«01_k».proof.Proof.Run
public import proofs.«01_k».proof.Proof.Windows
public import proofs.«01_k».proof.Proof.Block
public import Idealize.ShloMosaic.Lib.StableHlo.ReadAt
public import Idealize.ShloMosaic.Lib.Pointwise
public import Idealize.ShloMosaic.Lib.Pipeline.ValueKit.Point
public import Idealize.ShloMosaic.PureOps.Ideal.Laws

@[expose] public section

set_option maxRecDepth 16384

noncomputable section

namespace Cert.KernelIdeal.Body

open Idealize.ShloMosaic Idealize.ShloMosaic.StableHlo
open Cert.KernelIdeal Cert.KernelIdeal.Gen

/-! # The running words and the two outputs

After the points of an image so far, the three running words are the sums over those points' anchors; after each finished
image the two outputs are the sums of the finished images' losses, an eighth each. -/

variable (m : (ℓ : Loc nD τ sig) → Buf (Elt Ideal) ℓ) (d : Dev nD)

/-! ## The sums of one run of anchors -/

/-- The class sum of image `i` over run `j` of its anchors. -/
def clsP (i : Fin 8) (j : Fin 6) : EReal :=
  Spec.clsSum (fun y => ancOf m d (anc j y)) (boxOf m d i) (labOf m d i) (fun y => clsOf m d i (anc j y))
/-- The positive anchors of image `i` in run `j`. -/
def cntP (i : Fin 8) (j : Fin 6) : EReal := Spec.cntSum (fun y => ancOf m d (anc j y)) (boxOf m d i)
/-- The box sum of image `i` over run `j` of its anchors. -/
def regP (i : Fin 8) (j : Fin 6) : EReal :=
  Spec.regSum (fun y => ancOf m d (anc j y)) (boxOf m d i) (fun y => regOf m d i (anc j y))

theorem cls_runs (i : Fin 8) : ∑ j, clsP m d i j = Spec.clsSum (ancOf m d) (boxOf m d i) (labOf m d i) (clsOf m d i) :=
  (Spec.sum_blocks (fun x => Spec.clsAt (ancOf m d x) (boxOf m d i) (labOf m d i) (clsOf m d i x))).symm
theorem cnt_runs (i : Fin 8) : ∑ j, cntP m d i j = Spec.cntSum (ancOf m d) (boxOf m d i) :=
  (Spec.sum_blocks (fun x => Spec.cntAt (ancOf m d x) (boxOf m d i))).symm
theorem reg_runs (i : Fin 8) : ∑ j, regP m d i j = Spec.regSum (ancOf m d) (boxOf m d i) (regOf m d i) :=
  (Spec.sum_blocks (fun x => Spec.regAt (ancOf m d x) (boxOf m d i) (regOf m d i x))).symm

/-- What the arguments must satisfy: every label is a class, every score is a number below one. -/
structure Good : Prop where
  lab : ∀ i g, ∃ l : Fin 80, labOf m d i g = BitVec.ofNat 32 l.val
  cls : ∀ i x c, ∃ r : ℝ, clsOf m d i x c = r ∧ r < 1

section Point
variable (t : Fin cfg0.N)

theorem anc_point : ancB (iblk m d 3 t) = fun y => ancOf m d (anc (seg t) y) := funext fun y => funext fun k => win3 m d t k y
theorem box_point : boxB (iblk m d 1 t) = boxOf m d (img t) := funext fun g => funext fun k => win1 m d t g k
theorem cls_point : clsB (iblk m d 4 t) = fun y => clsOf m d (img t) (anc (seg t) y) := funext fun y => funext fun c => win4 m d t c y
theorem reg_point : regB (iblk m d 5 t) = fun y => regOf m d (img t) (anc (seg t) y) := funext fun y => funext fun k => win5 m d t k y

theorem point_cls (h : Good m d) :
    dense (iblk m d 4 t) + corr (iblk m d 0 t) (iblk m d 1 t) (iblk m d 3 t) (iblk m d 4 t) = clsP m d (img t) (seg t) := by
  refine (cls_eq _ _ _ _ (labOf m d (img t)) (fun g c => win0 m d t g c) (h.lab _) fun y c => ?_).trans ?_
  · rw [cls_point]; exact h.cls _ _ _
  · rw [anc_point, box_point, cls_point]; rfl

theorem point_cnt : count (iblk m d 1 t) (iblk m d 3 t) = cntP m d (img t) (seg t) := by
  rw [count_eq, anc_point, box_point]; rfl

theorem point_reg : regs (iblk m d 1 t) (iblk m d 2 t) (iblk m d 3 t) (iblk m d 5 t) = regP m d (img t) (seg t) := by
  rw [reg_eq _ _ _ _ fun g k => (win2 m d t g k).trans (win1 m d t g k).symm, anc_point, box_point, reg_point]; rfl

end Point

/-! ## The words -/

theorem pay38_eq (a b c : EReal) : k0_pay38 (F := Ideal) a b c = c + (a + b) := by
  refine Eq.trans ?_ (add_assoc c a b)
  pointwise [k0_pay38]
theorem pay1_eq (a b : EReal) : k0_pay1 (F := Ideal) a b = b + a := by
  pointwise [k0_pay1]
theorem pay2_eq (a b : EReal) : k0_pay2 (F := Ideal) a b = b + a := by
  pointwise [k0_pay2]
theorem pay3_eq (a b c o : EReal) : k0_pay3 (F := Ideal) a b c o = o + Ideal.div b (max (c + a) 1) * Spec.eighth := by
  pointwise [k0_pay3, k0_pay1]
theorem pay4_eq (a b c e o : EReal) :
    k0_pay4 (F := Ideal) a b c e o = o + Ideal.div (e + b) (max (Spec.four * (c + a)) 1) * Spec.eighth := by
  pointwise [k0_pay4, k0_pay1, k0_pay2]

/-- Three numbers as running words. -/
def mk (a b c : EReal) : Words Ideal := ⟨a, b, c⟩

theorem mk_eta (w : Words Ideal) : w = mk w.cls w.cnt w.reg := rfl

theorem zero_eq : (Words.zero : Words Ideal) = mk 0 0 0 := by
  have h : (FloatOps.ofBits (F := Ideal) FTy.f32 0#32 : EReal) = 0 := Ideal.ofBits_zero_f32
  unfold Words.zero mk; rw [h]

theorem step_words (h : Good m d) (t : Fin cfg0.N) (s : St Ideal) (a b c : EReal)
    (hs : startWords (grid0.coords t) s.w = mk a b c) :
    (stepSt m d t s).w = mk (a + clsP m d (img t) (seg t)) (b + cntP m d (img t) (seg t)) (c + regP m d (img t) (seg t)) := by
  have h1 : k0_pay38 (dense (iblk m d 4 t)) (corr (iblk m d 0 t) (iblk m d 1 t) (iblk m d 3 t) (iblk m d 4 t)) a = a + clsP m d (img t) (seg t) := by
    rw [pay38_eq]; exact congrArg (a + ·) (point_cls m d t h)
  have h2 : k0_pay1 (count (iblk m d 1 t) (iblk m d 3 t)) b = b + cntP m d (img t) (seg t) := by
    rw [point_cnt, pay1_eq]
  have h3 : k0_pay2 (regs (iblk m d 1 t) (iblk m d 2 t) (iblk m d 3 t) (iblk m d 5 t)) c = c + regP m d (img t) (seg t) := by
    rw [point_reg, pay2_eq]
  show (startWords (grid0.coords t) s.w).add _ _ _ _ _ _ = _
  rw [hs, ← h1, ← h2, ← h3]
  rfl

/-- A family over the first numbers, as one over all. -/
def up {n : Nat} [NeZero n] (f : Fin n → EReal) (k : Nat) : EReal := f (Fin.ofNat n k)

theorem sum_up {n : Nat} [NeZero n] (f : Fin n → EReal) : ∑ k ∈ Finset.range n, up f k = ∑ k, f k := by
  rw [Finset.sum_range]
  exact Finset.sum_congr rfl fun k _ => congrArg f (Fin.ext (Nat.mod_eq_of_lt k.2))

theorem up_lt {n : Nat} [NeZero n] (f : Fin n → EReal) (k : Nat) (h : k < n) : up f k = f ⟨k, h⟩ :=
  congrArg f (Fin.ext (Nat.mod_eq_of_lt h))

/-- The words after the point `t`: the sums over the runs of its image up to it. -/
def sums (t : Fin cfg0.N) (n : Nat) : Words Ideal :=
  mk (∑ q ∈ Finset.range n, up (clsP m d (img t)) q) (∑ q ∈ Finset.range n, up (cntP m d (img t)) q)
    (∑ q ∈ Finset.range n, up (regP m d (img t)) q)

theorem sums_step (h : Good m d) (t : Fin cfg0.N) (s : St Ideal) (hs : startWords (grid0.coords t) s.w = sums m d t (t.val % 6)) :
    (stepSt m d t s).w = sums m d t (t.val % 6 + 1) := by
  rw [step_words m d h t s _ _ _ hs, sums]
  simp only [Finset.sum_range_succ, up_lt _ (t.val % 6) (Nat.mod_lt _ (by norm_num))]
  rfl

theorem start_sums (h : Good m d) : ∀ (n : Nat) (hn : n < cfg0.N),
    startWords (grid0.coords ⟨n, hn⟩) (stAt m d n).w = sums m d ⟨n, hn⟩ (n % 6) := by
  intro n
  induction n with
  | zero =>
    intro hn
    rw [startWords, if_pos ((condFirst_iff _).2 rfl), zero_eq]; rfl
  | succ n ih =>
    intro hn
    by_cases h6 : (n + 1) % 6 = 0
    · rw [startWords, if_pos ((condFirst_iff _).2 h6), zero_eq, h6]; rfl
    · rw [startWords, if_neg fun e => h6 ((condFirst_iff _).1 e)]
      have e := stAt_succ m d ⟨n, by omega⟩
      simp only at e
      rw [e, sums_step m d h _ _ (ih (by omega))]
      have h1 : (n + 1) % 6 = n % 6 + 1 := by omega
      have h2 : img ⟨n + 1, hn⟩ = img ⟨n, by omega⟩ := Fin.ext (by show (n + 1) / 6 = n / 6; omega)
      simp only [sums, h1, h2]

/-! ## The outputs -/

/-- An image's share of the class loss. -/
def clsShare (i : Fin 8) : EReal := Spec.clsImg (ancOf m d) (boxOf m d i) (labOf m d i) (clsOf m d i) * Spec.eighth
/-- An image's share of the box loss. -/
def regShare (i : Fin 8) : EReal := Spec.regImg (ancOf m d) (boxOf m d i) (regOf m d i) * Spec.eighth

theorem last_cls (h : Good m d) (t : Fin cfg0.N) (s : St Ideal) (ht : t.val % 6 = 5) (h0 : ¬ t.val % 48 = 0)
    (hs : startWords (grid0.coords t) s.w = sums m d t (t.val % 6)) :
    (stepSt m d t s).cls = fun _ => ((s.cls (Shape.Idx.first (by decide)) : EReal) + clsShare m d (img t)) := by
  have hw := sums_step m d h t s hs
  rw [ht] at hw
  have hc : (stepSt m d t s).w.cls = ∑ j, clsP m d (img t) j := by rw [hw]; exact sum_up _
  have hn : (stepSt m d t s).w.cnt = ∑ j, cntP m d (img t) j := by rw [hw]; exact sum_up _
  rw [cls_runs] at hc
  rw [cnt_runs] at hn
  show nextCls _ _ _ _ _ _ _ _ _ = _
  rw [nextCls, if_neg fun e => h0 ((condInit_iff t).1 e), if_pos ((condLast_iff t).2 ht)]
  refine funext fun _ => (pay3_eq _ _ _ _).trans ?_
  rw [← pay1_eq]
  unfold clsShare Spec.clsImg
  rw [← hc, ← hn]
  rfl

theorem last_reg (h : Good m d) (t : Fin cfg0.N) (s : St Ideal) (ht : t.val % 6 = 5) (h0 : ¬ t.val % 48 = 0)
    (hs : startWords (grid0.coords t) s.w = sums m d t (t.val % 6)) :
    (stepSt m d t s).reg = fun _ => ((s.reg (Shape.Idx.first (by decide)) : EReal) + regShare m d (img t)) := by
  have hw := sums_step m d h t s hs
  rw [ht] at hw
  have hc : (stepSt m d t s).w.reg = ∑ j, regP m d (img t) j := by rw [hw]; exact sum_up _
  have hn : (stepSt m d t s).w.cnt = ∑ j, cntP m d (img t) j := by rw [hw]; exact sum_up _
  rw [reg_runs] at hc
  rw [cnt_runs] at hn
  show nextReg _ _ _ _ _ _ _ _ _ = _
  rw [nextReg, if_neg fun e => h0 ((condInit_iff t).1 e), if_pos ((condLast_iff t).2 ht)]
  refine funext fun _ => (pay4_eq _ _ _ _ _).trans ?_
  rw [← pay1_eq, ← pay2_eq]
  unfold regShare Spec.regImg
  rw [← hc, ← hn]
  rfl

theorem outs (h : Good m d) : ∀ n, n < cfg0.N →
    (stAt m d (n + 1)).cls = (fun _ => ∑ i ∈ Finset.range ((n + 1) / 6), up (clsShare m d) i)
    ∧ (stAt m d (n + 1)).reg = (fun _ => ∑ i ∈ Finset.range ((n + 1) / 6), up (regShare m d) i) := by
  intro n
  induction n with
  | zero =>
    intro hn
    have e := stAt_succ m d ⟨0, hn⟩
    simp only at e
    rw [e]
    have hi : condInit (grid0.coords (⟨0, hn⟩ : Fin cfg0.N)) := (condInit_iff _).2 rfl
    refine ⟨?_, ?_⟩
    · show nextCls _ _ _ _ _ _ _ _ _ = _
      rw [nextCls, if_pos hi]
      exact funext fun _ => Ideal.ofBits_zero_f32
    · show nextReg _ _ _ _ _ _ _ _ _ = _
      rw [nextReg, if_pos hi]
      exact funext fun _ => Ideal.ofBits_zero_f32
  | succ n ih =>
    intro hn
    have hN : cfg0.N = 48 := by decide +kernel
    obtain ⟨hc, hr⟩ := ih (by omega)
    have h0 : ¬ (n + 1) % 48 = 0 := by omega
    by_cases h5 : (n + 1) % 6 = 5
    · have e := stAt_succ m d ⟨n + 1, hn⟩
      simp only at e
      have hs := start_sums m d h (n + 1) hn
      have h1 : (n + 1 + 1) / 6 = (n + 1) / 6 + 1 := by omega
      have hu : ∀ f : Fin 8 → EReal, ∑ i ∈ Finset.range ((n + 1) / 6 + 1), up f i
          = ∑ i ∈ Finset.range ((n + 1) / 6), up f i + f (img ⟨n + 1, hn⟩) := fun f => by
        rw [Finset.sum_range_succ, up_lt f ((n + 1) / 6) (by omega)]; rfl
      rw [e, last_cls m d h _ _ h5 h0 hs, last_reg m d h _ _ h5 h0 hs, hc, hr, h1, hu, hu]
      exact ⟨rfl, rfl⟩
    · have h1 : (n + 1 + 1) / 6 = (n + 1) / 6 := by omega
      have n0 : ¬ condInit (grid0.coords (⟨n + 1, hn⟩ : Fin cfg0.N)) := fun e => h0 ((condInit_iff _).1 e)
      have n2 : ¬ condLast (grid0.coords (⟨n + 1, hn⟩ : Fin cfg0.N)) := fun e => h5 ((condLast_iff _).1 e)
      rw [h1]
      exact ⟨(cls_keep m d ⟨n + 1, hn⟩ n0 n2).trans hc, (reg_keep m d ⟨n + 1, hn⟩ n0 n2).trans hr⟩

/-- The class output after the last point. -/
theorem cls_end (h : Good m d) : (stAt m d 48).cls = fun _ => Spec.clsLoss (ancOf m d) (boxOf m d) (labOf m d) (clsOf m d) := by
  rw [(outs m d h 47 (by decide +kernel)).1]
  refine funext fun _ => ?_
  unfold Spec.clsLoss
  rw [Spec.div_eight]
  exact sum_up (clsShare m d)

/-- The box output after the last point. -/
theorem reg_end (h : Good m d) : (stAt m d 48).reg = fun _ => Spec.regLoss (ancOf m d) (boxOf m d) (regOf m d) := by
  rw [(outs m d h 47 (by decide +kernel)).2]
  refine funext fun _ => ?_
  unfold Spec.regLoss
  rw [Spec.div_eight]
  exact sum_up (regShare m d)

end Cert.KernelIdeal.Body
end
-- ==== Proof.Result.lean ====
module

public import proofs.«01_k».proof.Proof.Run
public import proofs.«01_k».proof.Proof.Accum
public import Idealize.ShloMosaic.Lib.StableHlo.ReadAt
public import Idealize.ShloMosaic.Lib.Pointwise
public import Idealize.ShloMosaic.Lib.Pipeline.ValueKit.Point
public import Idealize.ShloMosaic.PureOps.Ideal.Laws

@[expose] public section

set_option maxRecDepth 16384

noncomputable section

namespace Cert.KernelIdeal.Body

open Idealize.ShloMosaic Idealize.ShloMosaic.StableHlo
open Cert.KernelIdeal Cert.KernelIdeal.Gen

/-! # What the kernel's program leaves in its two results -/

variable (m : (ℓ : Loc nD τ sig) → Buf (Elt Ideal) ℓ) (d : Dev nD)

/-- The class window's array at the end: what the last point leaves. -/
theorem arr6 (h : Good m d) : (dats m 0 d).arrAt 6 cfg0.N = fun _ => Spec.clsLoss (ancOf m d) (boxOf m d) (labOf m d) (clsOf m d) := by
  refine (dats m 0 d).arrAt_eq_of_covers 6 _ (by decide +kernel) fun t hf y => ?_
  have ht : t.val = 47 := (by decide +kernel : ∀ t : Fin grid0.N, (cfg0.win 6).flush t = true → t.val = 47) t hf
  rw [after6, ht, cls_end m d h]
  rfl

theorem arr7 (h : Good m d) : (dats m 0 d).arrAt 7 cfg0.N = fun _ => Spec.regLoss (ancOf m d) (boxOf m d) (regOf m d) := by
  refine (dats m 0 d).arrAt_eq_of_covers 7 _ (by decide +kernel) fun t hf y => ?_
  have ht : t.val = 47 := (by decide +kernel : ∀ t : Fin grid0.N, (cfg0.win 7).flush t = true → t.val = 47) t hf
  rw [after7, ht, reg_end m d h]
  rfl

theorem arr_inj : Function.Injective (Pipeline.arrRef spec0) := by decide +kernel

theorem res9 (h : Good m d) : Pipeline.afterTail₀ cfgs (dats m) 0 (V0 m) [hostOps1] d main_v9
    = fun _ => Spec.clsLoss (ancOf m d) (boxOf m d) (labOf m d) (clsOf m d) := by
  have e := Pipeline.withArrays_arr spec0 arr_inj d (V0 m d) (fun w => (dats m 0 d).arrAt w cfg0.N) 6
  rw [arr6 m d h] at e
  unfold Pipeline.afterTail₀
  simp only [List.flatten_cons, List.flatten_nil, List.append_nil, List.cons_append, List.nil_append]
  after_reads_at
  exact funext fun _ => congrFun e (ix2 0 0)

theorem res10 (h : Good m d) : Pipeline.afterTail₀ cfgs (dats m) 0 (V0 m) [hostOps1] d main_v10
    = fun _ => Spec.regLoss (ancOf m d) (boxOf m d) (regOf m d) := by
  have e := Pipeline.withArrays_arr spec0 arr_inj d (V0 m d) (fun w => (dats m 0 d).arrAt w cfg0.N) 7
  rw [arr7 m d h] at e
  unfold Pipeline.afterTail₀
  simp only [List.flatten_cons, List.flatten_nil, List.append_nil, List.cons_append, List.nil_append]
  after_reads_at
  exact funext fun _ => congrFun e (ix2 0 0)

variable (ρ : Dev nD → PrngReg)

/-- The kernel's program ends with the two losses and its arguments unchanged. -/
theorem run_value (h : ∀ d, Good m d) : θ_run defs (onTc (τ := τ) (main (F := Ideal))) ⟨m, fun _ => 0, ρ⟩ (fun r => ∀ c : Dev nD,
      r.2.mem ((c.tc : Thread nD τ).loc main_v9) = (fun _ => Spec.clsLoss (ancOf m c) (boxOf m c) (labOf m c) (clsOf m c))
      ∧ r.2.mem ((c.tc : Thread nD τ).loc main_v10) = (fun _ => Spec.regLoss (ancOf m c) (boxOf m c) (regOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ?_) (θ_run_and (run_main m ρ) (frame m ρ))
  obtain ⟨⟨hp, -⟩, ha, -⟩ := hr
  refine ⟨?_, ?_, ha c⟩
  · exact ((hp c).2 main_v9 (Pipeline.mem_restRefs_of main_v9 (by decide) (by decide))).trans (res9 m c (h c))
  · exact ((hp c).2 main_v10 (Pipeline.mem_restRefs_of main_v10 (by decide) (by decide))).trans (res10 m c (h c))

end Cert.KernelIdeal.Body
end
-- ==== Proof.RefOps.lean ====
/-
  THE REFERENCE AS A LIST OF OPERATIONS, in ten stretches: what each stretch leaves is read in the modules that follow.
-/
module

public import proofs.«01_k».proof.Defs
public import proofs.«01_k».proof.Proof.Gen.ReferenceIdeal
public import Idealize.ShloMosaic.Lib.StableHlo.RunHlo
public import Idealize.ShloMosaic.Lib.StableHlo.RunRead

@[expose] public section

set_option maxRecDepth 16384

noncomputable section

namespace Cert.ReferenceIdeal.Ops

open Idealize.ShloMosaic Idealize.ShloMosaic.StableHlo
open Cert.ReferenceIdeal Cert.ReferenceIdeal.Facts₀ Cert.ReferenceIdeal.Facts

variable {F : FTy → Type} [FloatOps F] [Facts]

/-- Operations: the overlap of every anchor with every box. -/
def opsA : List (HloOp τ sig (Elt F)) := [
  StableHlo.unary main_arg2 main_v0 ((extractStridedSlice S49104x1 ![0, 2] · slices_S49104x4_S49104x1_0_2) : (⟨S49104x4, .f32⟩ : BufTy).Contents (Elt F) → (⟨S49104x1, .f32⟩ : BufTy).Contents (Elt F)),
  StableHlo.reshape main_v0 main_v1 (rfl : (.f32 : EltTy) = .f32) shapeCasts_S49104x1_S49104,
  StableHlo.unary main_arg2 main_v2 ((extractStridedSlice S49104x1 ![0, 0] · slices_S49104x4_S49104x1_0_0) : (⟨S49104x4, .f32⟩ : BufTy).Contents (Elt F) → (⟨S49104x1, .f32⟩ : BufTy).Contents (Elt F)),
  StableHlo.reshape main_v2 main_v3 (rfl : (.f32 : EltTy) = .f32) shapeCasts_S49104x1_S49104,
  StableHlo.binary main_v1 main_v3 main_v4 (subf : (⟨S49104, .f32⟩ : BufTy).Contents (Elt F) → (⟨S49104, .f32⟩ : BufTy).Contents (Elt F) → (⟨S49104, .f32⟩ : BufTy).Contents (Elt F)),
  StableHlo.unary main_arg2 main_v5 ((extractStridedSlice S49104x1 ![0, 3] · slices_S49104x4_S49104x1_0_3) : (⟨S49104x4, .f32⟩ : BufTy).Contents (Elt F) → (⟨S49104x1, .f32⟩ : BufTy).Contents (Elt F)),
  StableHlo.reshape main_v5 main_v6 (rfl : (.f32 : EltTy) = .f32) shapeCasts_S49104x1_S49104,
  StableHlo.unary main_arg2 main_v7 ((extractStridedSlice S49104x1 ![0, 1] · slices_S49104x4_S49104x1_0_1) : (⟨S49104x4, .f32⟩ : BufTy).Contents (Elt F) → (⟨S49104x1, .f32⟩ : BufTy).Contents (Elt F)),
  StableHlo.reshape main_v7 main_v8 (rfl : (.f32 : EltTy) = .f32) shapeCasts_S49104x1_S49104,
  StableHlo.binary main_v6 main_v8 main_v9 (subf : (⟨S49104, .f32⟩ : BufTy).Contents (Elt F) → (⟨S49104, .f32⟩ : BufTy).Contents (Elt F) → (⟨S49104, .f32⟩ : BufTy).Contents (Elt F)),
  StableHlo.binary main_v4 main_v9 main_v10 (mulf : (⟨S49104, .f32⟩ : BufTy).Contents (Elt F) → (⟨S49104, .f32⟩ : BufTy).Contents (Elt F) → (⟨S49104, .f32⟩ : BufTy).Contents (Elt F)),
  StableHlo.unary main_arg4 main_v11 ((extractStridedSlice S8x32x1 ![0, 0, 2] · slices_S8x32x4_S8x32x1_0_0_2) : (⟨S8x32x4, .f32⟩ : BufTy).Contents (Elt F) → (⟨S8x32x1, .f32⟩ : BufTy).Contents (Elt F)),
  StableHlo.reshape main_v11 main_v12 (rfl : (.f32 : EltTy) = .f32) shapeCasts_S8x32x1_S8x32,
  StableHlo.unary main_arg4 main_v13 ((extractStridedSlice S8x32x1 ![0, 0, 0] · slices_S8x32x4_S8x32x1_0_0_0) : (⟨S8x32x4, .f32⟩ : BufTy).Contents (Elt F) → (⟨S8x32x1, .f32⟩ : BufTy).Contents (Elt F)),
  StableHlo.reshape main_v13 main_v14 (rfl : (.f32 : EltTy) = .f32) shapeCasts_S8x32x1_S8x32,
  StableHlo.binary main_v12 main_v14 main_v15 (subf : (⟨S8x32, .f32⟩ : BufTy).Contents (Elt F) → (⟨S8x32, .f32⟩ : BufTy).Contents (Elt F) → (⟨S8x32, .f32⟩ : BufTy).Contents (Elt F)),
  StableHlo.unary main_arg4 main_v16 ((extractStridedSlice S8x32x1 ![0, 0, 3] · slices_S8x32x4_S8x32x1_0_0_3) : (⟨S8x32x4, .f32⟩ : BufTy).Contents (Elt F) → (⟨S8x32x1, .f32⟩ : BufTy).Contents (Elt F)),
  StableHlo.reshape main_v16 main_v17 (rfl : (.f32 : EltTy) = .f32) shapeCasts_S8x32x1_S8x32,
  StableHlo.unary main_arg4 main_v18 ((extractStridedSlice S8x32x1 ![0, 0, 1] · slices_S8x32x4_S8x32x1_0_0_1) : (⟨S8x32x4, .f32⟩ : BufTy).Contents (Elt F) → (⟨S8x32x1, .f32⟩ : BufTy).Contents (Elt F)),
  StableHlo.reshape main_v18 main_v19 (rfl : (.f32 : EltTy) = .f32) shapeCasts_S8x32x1_S8x32,
  StableHlo.binary main_v17 main_v19 main_v20 (subf : (⟨S8x32, .f32⟩ : BufTy).Contents (Elt F) → (⟨S8x32, .f32⟩ : BufTy).Contents (Elt F) → (⟨S8x32, .f32⟩ : BufTy).Contents (Elt F)),
  StableHlo.binary main_v15 main_v20 main_v21 (mulf : (⟨S8x32, .f32⟩ : BufTy).Contents (Elt F) → (⟨S8x32, .f32⟩ : BufTy).Contents (Elt F) → (⟨S8x32, .f32⟩ : BufTy).Contents (Elt F)),
  StableHlo.unary main_arg2 main_v22 ((extractStridedSlice S49104x2 ![0, 0] · slices_S49104x4_S49104x2_0_0) : (⟨S49104x4, .f32⟩ : BufTy).Contents (Elt F) → (⟨S49104x2, .f32⟩ : BufTy).Contents (Elt F)),
  StableHlo.unary main_v22 main_v23 (broadcastInDim S49104x1x2 ![0, 2] bcast_S49104x2_S49104x1x2_0_2 : (⟨S49104x2, .f32⟩ : BufTy).Contents (Elt F) → (⟨S49104x1x2, .f32⟩ : BufTy).Contents (Elt F)),
  StableHlo.unary main_arg4 main_v24 ((extractStridedSlice S8x32x2 ![0, 0, 0] · slices_S8x32x4_S8x32x2_0_0_0) : (⟨S8x32x4, .f32⟩ : BufTy).Contents (Elt F) → (⟨S8x32x2, .f32⟩ : BufTy).Contents (Elt F)),
  StableHlo.unary main_v24 main_v25 (broadcastInDim S8x1x32x2 ![0, 2, 3] bcast_S8x32x2_S8x1x32x2_0_2_3 : (⟨S8x32x2, .f32⟩ : BufTy).Contents (Elt F) → (⟨S8x1x32x2, .f32⟩ : BufTy).Contents (Elt F)),
  StableHlo.unary main_v23 main_v26 (broadcastInDim S1x49104x1x2 ![1, 2, 3] bcast_S49104x1x2_S1x49104x1x2_1_2_3 : (⟨S49104x1x2, .f32⟩ : BufTy).Contents (Elt F) → (⟨S1x49104x1x2, .f32⟩ : BufTy).Contents (Elt F)),
  StableHlo.unary main_v26 main_v27 (broadcastInDim S8x49104x32x2 ![0, 1, 2, 3] bcast_S1x49104x1x2_S8x49104x32x2_0_1_2_3 : (⟨S1x49104x1x2, .f32⟩ : BufTy).Contents (Elt F) → (⟨S8x49104x32x2, .f32⟩ : BufTy).Contents (Elt F)),
  StableHlo.unary main_v25 main_v28 (broadcastInDim S8x49104x32x2 ![0, 1, 2, 3] bcast_S8x1x32x2_S8x49104x32x2_0_1_2_3 : (⟨S8x1x32x2, .f32⟩ : BufTy).Contents (Elt F) → (⟨S8x49104x32x2, .f32⟩ : BufTy).Contents (Elt F)),
  StableHlo.binary main_v27 main_v28 main_v29 (maximumf : (⟨S8x49104x32x2, .f32⟩ : BufTy).Contents (Elt F) → (⟨S8x49104x32x2, .f32⟩ : BufTy).Contents (Elt F) → (⟨S8x49104x32x2, .f32⟩ : BufTy).Contents (Elt F)),
  StableHlo.unary main_arg2 main_v30 ((extractStridedSlice S49104x2 ![0, 2] · slices_S49104x4_S49104x2_0_2) : (⟨S49104x4, .f32⟩ : BufTy).Contents (Elt F) → (⟨S49104x2, .f32⟩ : BufTy).Contents (Elt F)),
  StableHlo.unary main_v30 main_v31 (broadcastInDim S49104x1x2 ![0, 2] bcast_S49104x2_S49104x1x2_0_2 : (⟨S49104x2, .f32⟩ : BufTy).Contents (Elt F) → (⟨S49104x1x2, .f32⟩ : BufTy).Contents (Elt F)),
  StableHlo.unary main_arg4 main_v32 ((extractStridedSlice S8x32x2 ![0, 0, 2] · slices_S8x32x4_S8x32x2_0_0_2) : (⟨S8x32x4, .f32⟩ : BufTy).Contents (Elt F) → (⟨S8x32x2, .f32⟩ : BufTy).Contents (Elt F)),
  StableHlo.unary main_v32 main_v33 (broadcastInDim S8x1x32x2 ![0, 2, 3] bcast_S8x32x2_S8x1x32x2_0_2_3 : (⟨S8x32x2, .f32⟩ : BufTy).Contents (Elt F) → (⟨S8x1x32x2, .f32⟩ : BufTy).Contents (Elt F)),
  StableHlo.unary main_v31 main_v34 (broadcastInDim S1x49104x1x2 ![1, 2, 3] bcast_S49104x1x2_S1x49104x1x2_1_2_3 : (⟨S49104x1x2, .f32⟩ : BufTy).Contents (Elt F) → (⟨S1x49104x1x2, .f32⟩ : BufTy).Contents (Elt F)),
  StableHlo.unary main_v34 main_v35 (broadcastInDim S8x49104x32x2 ![0, 1, 2, 3] bcast_S1x49104x1x2_S8x49104x32x2_0_1_2_3 : (⟨S1x49104x1x2, .f32⟩ : BufTy).Contents (Elt F) → (⟨S8x49104x32x2, .f32⟩ : BufTy).Contents (Elt F)),
  StableHlo.unary main_v33 main_v36 (broadcastInDim S8x49104x32x2 ![0, 1, 2, 3] bcast_S8x1x32x2_S8x49104x32x2_0_1_2_3 : (⟨S8x1x32x2, .f32⟩ : BufTy).Contents (Elt F) → (⟨S8x49104x32x2, .f32⟩ : BufTy).Contents (Elt F)),
  StableHlo.binary main_v35 main_v36 main_v37 (minimumf : (⟨S8x49104x32x2, .f32⟩ : BufTy).Contents (Elt F) → (⟨S8x49104x32x2, .f32⟩ : BufTy).Contents (Elt F) → (⟨S8x49104x32x2, .f32⟩ : BufTy).Contents (Elt F)),
  StableHlo.binary main_v37 main_v29 main_v38 (subf : (⟨S8x49104x32x2, .f32⟩ : BufTy).Contents (Elt F) → (⟨S8x49104x32x2, .f32⟩ : BufTy).Contents (Elt F) → (⟨S8x49104x32x2, .f32⟩ : BufTy).Contents (Elt F)),
  StableHlo.nullary main_cst (constant S_ .f32 0x00000000#32),
  StableHlo.TRef.unary (.of main_cst : TRef sig ⟨S_, .f32⟩) (.of main_call0_v0 : TRef sig ⟨S_, .f32⟩) id,
  StableHlo.TRef.unary (.of main_call0_v0 : TRef sig ⟨S_, .f32⟩) (.of main_call0_v1 : TRef sig ⟨S8x49104x32x2, .f32⟩) (broadcastInDim S8x49104x32x2 ![] bcast_S_S8x49104x32x2),
  StableHlo.TRef.binary (.of main_call0_v1 : TRef sig ⟨S8x49104x32x2, .f32⟩) (.of main_v38 : TRef sig ⟨S8x49104x32x2, .f32⟩) (.of main_v39 : TRef sig ⟨S8x49104x32x2, .f32⟩) maximumf,
  StableHlo.unary main_v39 main_v40 ((extractStridedSlice S8x49104x32x1 ![0, 0, 0, 0] · slices_S8x49104x32x2_S8x49104x32x1_0_0_0_0) : (⟨S8x49104x32x2, .f32⟩ : BufTy).Contents (Elt F) → (⟨S8x49104x32x1, .f32⟩ : BufTy).Contents (Elt F)),
  StableHlo.reshape main_v40 main_v41 (rfl : (.f32 : EltTy) = .f32) shapeCasts_S8x49104x32x1_S8x49104x32,
  StableHlo.unary main_v39 main_v42 ((extractStridedSlice S8x49104x32x1 ![0, 0, 0, 1] · slices_S8x49104x32x2_S8x49104x32x1_0_0_0_1) : (⟨S8x49104x32x2, .f32⟩ : BufTy).Contents (Elt F) → (⟨S8x49104x32x1, .f32⟩ : BufTy).Contents (Elt F)),
  StableHlo.reshape main_v42 main_v43 (rfl : (.f32 : EltTy) = .f32) shapeCasts_S8x49104x32x1_S8x49104x32,
  StableHlo.binary main_v41 main_v43 main_v44 (mulf : (⟨S8x49104x32, .f32⟩ : BufTy).Contents (Elt F) → (⟨S8x49104x32, .f32⟩ : BufTy).Contents (Elt F) → (⟨S8x49104x32, .f32⟩ : BufTy).Contents (Elt F)),
  StableHlo.unary main_v10 main_v45 (broadcastInDim S49104x1 ![0] bcast_S49104_S49104x1_0 : (⟨S49104, .f32⟩ : BufTy).Contents (Elt F) → (⟨S49104x1, .f32⟩ : BufTy).Contents (Elt F)),
  StableHlo.unary main_v21 main_v46 (broadcastInDim S8x1x32 ![0, 2] bcast_S8x32_S8x1x32_0_2 : (⟨S8x32, .f32⟩ : BufTy).Contents (Elt F) → (⟨S8x1x32, .f32⟩ : BufTy).Contents (Elt F)),
  StableHlo.unary main_v45 main_v47 (broadcastInDim S1x49104x1 ![1, 2] bcast_S49104x1_S1x49104x1_1_2 : (⟨S49104x1, .f32⟩ : BufTy).Contents (Elt F) → (⟨S1x49104x1, .f32⟩ : BufTy).Contents (Elt F)),
  StableHlo.unary main_v47 main_v48 (broadcastInDim S8x49104x32 ![0, 1, 2] bcast_S1x49104x1_S8x49104x32_0_1_2 : (⟨S1x49104x1, .f32⟩ : BufTy).Contents (Elt F) → (⟨S8x49104x32, .f32⟩ : BufTy).Contents (Elt F)),
  StableHlo.unary main_v46 main_v49 (broadcastInDim S8x49104x32 ![0, 1, 2] bcast_S8x1x32_S8x49104x32_0_1_2 : (⟨S8x1x32, .f32⟩ : BufTy).Contents (Elt F) → (⟨S8x49104x32, .f32⟩ : BufTy).Contents (Elt F)),
  StableHlo.binary main_v48 main_v49 main_v50 (addf : (⟨S8x49104x32, .f32⟩ : BufTy).Contents (Elt F) → (⟨S8x49104x32, .f32⟩ : BufTy).Contents (Elt F) → (⟨S8x49104x32, .f32⟩ : BufTy).Contents (Elt F)),
  StableHlo.binary main_v50 main_v44 main_v51 (subf : (⟨S8x49104x32, .f32⟩ : BufTy).Contents (Elt F) → (⟨S8x49104x32, .f32⟩ : BufTy).Contents (Elt F) → (⟨S8x49104x32, .f32⟩ : BufTy).Contents (Elt F)),
  StableHlo.binary main_v44 main_v51 main_v52 (Host.divf : (⟨S8x49104x32, .f32⟩ : BufTy).Contents (Elt F) → (⟨S8x49104x32, .f32⟩ : BufTy).Contents (Elt F) → (⟨S8x49104x32, .f32⟩ : BufTy).Contents (Elt F))]

/-- Operations: each anchor's best overlap and its box. -/
def opsB : List (HloOp τ sig (Elt F)) := [
  StableHlo.nullary main_cst_0 (constant S_ .f32 0xFF800000#32),
  StableHlo.binary main_v52 main_cst_0 main_v53 ((fun x v => Host.reduce FloatOps.maximumf x v reducesTo_S8x49104x32_S8x49104_d2 h_S_) : (⟨S8x49104x32, .f32⟩ : BufTy).Contents (Elt F) → (⟨S_, .f32⟩ : BufTy).Contents (Elt F) → (⟨S8x49104, .f32⟩ : BufTy).Contents (Elt F)),
  StableHlo.TRef.nullary (.of main_call1_v0 : TRef sig ⟨S8x49104x32, .i32⟩) (iotaInDim S8x49104x32 32 2),
  StableHlo.TRef.nullary (.of main_call1_cst : TRef sig ⟨S_, .f32⟩) (constant S_ .f32 0xFF800000#32),
  StableHlo.TRef.nullary (.of main_call1_c : TRef sig ⟨S_, .i32⟩) (constantI S_ 32 0#32),
  StableHlo.TRef.quaternary (.of main_v52 : TRef sig ⟨S8x49104x32, .f32⟩) (.of main_call1_v0 : TRef sig ⟨S8x49104x32, .i32⟩) (.of main_call1_cst : TRef sig ⟨S_, .f32⟩) (.of main_call1_c : TRef sig ⟨S_, .i32⟩) (.of main_call1_v1_0 : TRef sig ⟨S8x49104, .f32⟩) (fun x y u v j => (Host.argReduce reducer_argmax_f32_i32 x y u v reducesTo_S8x49104x32_S8x49104_d2 h_S_ j).1),
  StableHlo.TRef.quaternary (.of main_v52 : TRef sig ⟨S8x49104x32, .f32⟩) (.of main_call1_v0 : TRef sig ⟨S8x49104x32, .i32⟩) (.of main_call1_cst : TRef sig ⟨S_, .f32⟩) (.of main_call1_c : TRef sig ⟨S_, .i32⟩) (.of main_v54 : TRef sig ⟨S8x49104, .i32⟩) (fun x y u v j => (Host.argReduce reducer_argmax_f32_i32 x y u v reducesTo_S8x49104x32_S8x49104_d2 h_S_ j).2)]

/-- Operations: the label's one-hot row. -/
def opsC : List (HloOp τ sig (Elt F)) := [
  StableHlo.TRef.nullary (.of main_call2_c : TRef sig ⟨S_, .i32⟩) (constantI S_ 32 0#32),
  StableHlo.TRef.unary (.of main_call2_c : TRef sig ⟨S_, .i32⟩) (.of main_call2_v0 : TRef sig ⟨S8x49104, .i32⟩) (broadcastInDim S8x49104 ![] bcast_S_S8x49104),
  StableHlo.TRef.binary (.of main_v54 : TRef sig ⟨S8x49104, .i32⟩) (.of main_call2_v0 : TRef sig ⟨S8x49104, .i32⟩) (.of main_call2_v1 : TRef sig ⟨S8x49104, .i1⟩) (cmpi .slt),
  StableHlo.TRef.nullary (.of main_call2_c_0 : TRef sig ⟨S_, .i32⟩) (constantI S_ 32 32#32),
  StableHlo.TRef.unary (.of main_call2_c_0 : TRef sig ⟨S_, .i32⟩) (.of main_call2_v2 : TRef sig ⟨S8x49104, .i32⟩) (broadcastInDim S8x49104 ![] bcast_S_S8x49104),
  StableHlo.TRef.binary (.of main_v54 : TRef sig ⟨S8x49104, .i32⟩) (.of main_call2_v2 : TRef sig ⟨S8x49104, .i32⟩) (.of main_call2_v3 : TRef sig ⟨S8x49104, .i32⟩) addi,
  StableHlo.TRef.ternary (.of main_call2_v1 : TRef sig ⟨S8x49104, .i1⟩) (.of main_call2_v3 : TRef sig ⟨S8x49104, .i32⟩) (.of main_v54 : TRef sig ⟨S8x49104, .i32⟩) (.of main_call2_v4 : TRef sig ⟨S8x49104, .i32⟩) select,
  StableHlo.TRef.unary (.of main_call2_v4 : TRef sig ⟨S8x49104, .i32⟩) (.of main_call2_v5 : TRef sig ⟨S8x49104x1, .i32⟩) (broadcastInDim S8x49104x1 ![0, 1] bcast_S8x49104_S8x49104x1_0_1),
  StableHlo.TRef.nullary (.of main_call2_c_1 : TRef sig ⟨S1, .i32⟩) (constantI S1 32 31#32),
  StableHlo.TRef.nullary (.of main_call2_c_2 : TRef sig ⟨S_, .i32⟩) (constantI S_ 32 0#32),
  StableHlo.TRef.unary (.of main_call2_c_2 : TRef sig ⟨S_, .i32⟩) (.of main_call2_v6 : TRef sig ⟨S8x49104x1, .i32⟩) (broadcastInDim S8x49104x1 ![] bcast_S_S8x49104x1),
  StableHlo.TRef.binary (.of main_call2_v5 : TRef sig ⟨S8x49104x1, .i32⟩) (.of main_call2_v6 : TRef sig ⟨S8x49104x1, .i32⟩) (.of main_call2_v7 : TRef sig ⟨S8x49104x1, .i1⟩) (cmpi .sge),
  StableHlo.TRef.unary (.of main_call2_c_1 : TRef sig ⟨S1, .i32⟩) (.of main_call2_v8 : TRef sig ⟨S1x1x1, .i32⟩) (broadcastInDim S1x1x1 ![2] bcast_S1_S1x1x1_2),
  StableHlo.TRef.unary (.of main_call2_v8 : TRef sig ⟨S1x1x1, .i32⟩) (.of main_call2_v9 : TRef sig ⟨S8x49104x1, .i32⟩) (broadcastInDim S8x49104x1 ![0, 1, 2] bcast_S1x1x1_S8x49104x1_0_1_2),
  StableHlo.TRef.binary (.of main_call2_v5 : TRef sig ⟨S8x49104x1, .i32⟩) (.of main_call2_v9 : TRef sig ⟨S8x49104x1, .i32⟩) (.of main_call2_v10 : TRef sig ⟨S8x49104x1, .i1⟩) (cmpi .sle),
  StableHlo.TRef.binary (.of main_call2_v7 : TRef sig ⟨S8x49104x1, .i1⟩) (.of main_call2_v10 : TRef sig ⟨S8x49104x1, .i1⟩) (.of main_call2_v11 : TRef sig ⟨S8x49104x1, .i1⟩) andi,
  StableHlo.TRef.nullary (.of main_call2_c_3 : TRef sig ⟨S_, .i1⟩) (constantI S_ 1 1#1),
  StableHlo.TRef.binary (.of main_call2_v11 : TRef sig ⟨S8x49104x1, .i1⟩) (.of main_call2_c_3 : TRef sig ⟨S_, .i1⟩) (.of main_call2_v12 : TRef sig ⟨S8x49104, .i1⟩) (fun x v => Host.reduce IntOp.andi x v reducesTo_S8x49104x1_S8x49104_d2 h_S_),
  StableHlo.TRef.binary (.of main_arg3 : TRef sig ⟨S8x32, .i32⟩) (.of main_call2_v5 : TRef sig ⟨S8x49104x1, .i32⟩) (.of main_call2_v13 : TRef sig ⟨S8x49104, .i32⟩) (fun x i => Host.gather gather_S8x32_S8x49104x1_S8x49104_n_1_0_0_1_2_11 x i),
  StableHlo.TRef.nullary (.of main_call2_c_4 : TRef sig ⟨S_, .i32⟩) (constantI S_ 32 2147483648#32),
  StableHlo.TRef.unary (.of main_call2_c_4 : TRef sig ⟨S_, .i32⟩) (.of main_call2_v14 : TRef sig ⟨S8x49104, .i32⟩) (broadcastInDim S8x49104 ![] bcast_S_S8x49104),
  StableHlo.TRef.ternary (.of main_call2_v12 : TRef sig ⟨S8x49104, .i1⟩) (.of main_call2_v13 : TRef sig ⟨S8x49104, .i32⟩) (.of main_call2_v14 : TRef sig ⟨S8x49104, .i32⟩) (.of main_v55 : TRef sig ⟨S8x49104, .i32⟩) select,
  StableHlo.TRef.unary (.of main_v55 : TRef sig ⟨S8x49104, .i32⟩) (.of main_call3_v0 : TRef sig ⟨S8x49104x1, .i32⟩) (broadcastInDim S8x49104x1 ![0, 1] bcast_S8x49104_S8x49104x1_0_1),
  StableHlo.TRef.nullary (.of main_call3_v1 : TRef sig ⟨S1x80, .i32⟩) (iotaInDim S1x80 32 1),
  StableHlo.TRef.unary (.of main_call3_v1 : TRef sig ⟨S1x80, .i32⟩) (.of main_call3_v2 : TRef sig ⟨S1x1x80, .i32⟩) (broadcastInDim S1x1x80 ![1, 2] bcast_S1x80_S1x1x80_1_2),
  StableHlo.TRef.unary (.of main_call3_v0 : TRef sig ⟨S8x49104x1, .i32⟩) (.of main_call3_v3 : TRef sig ⟨S8x49104x80, .i32⟩) (broadcastInDim S8x49104x80 ![0, 1, 2] bcast_S8x49104x1_S8x49104x80_0_1_2),
  StableHlo.TRef.unary (.of main_call3_v2 : TRef sig ⟨S1x1x80, .i32⟩) (.of main_call3_v4 : TRef sig ⟨S8x49104x80, .i32⟩) (broadcastInDim S8x49104x80 ![0, 1, 2] bcast_S1x1x80_S8x49104x80_0_1_2),
  StableHlo.TRef.binary (.of main_call3_v3 : TRef sig ⟨S8x49104x80, .i32⟩) (.of main_call3_v4 : TRef sig ⟨S8x49104x80, .i32⟩) (.of main_call3_v5 : TRef sig ⟨S8x49104x80, .i1⟩) (cmpi .eq),
  StableHlo.TRef.unary (.of main_call3_v5 : TRef sig ⟨S8x49104x80, .i1⟩) (.of main_v56 : TRef sig ⟨S8x49104x80, .f32⟩) (uitofp .f32),
  StableHlo.nullary main_cst_1 (constant S_ .f32 0x3F000000#32),
  StableHlo.unary main_cst_1 main_v57 (broadcastInDim S8x49104x80 ![] bcast_S_S8x49104x80 : (⟨S_, .f32⟩ : BufTy).Contents (Elt F) → (⟨S8x49104x80, .f32⟩ : BufTy).Contents (Elt F)),
  StableHlo.binary main_v56 main_v57 main_v58 (cmpf .ogt : (⟨S8x49104x80, .f32⟩ : BufTy).Contents (Elt F) → (⟨S8x49104x80, .f32⟩ : BufTy).Contents (Elt F) → (⟨S8x49104x80, .i1⟩ : BufTy).Contents (Elt F))]

/-- Operations: the target and the count of positive anchors. -/
def opsD : List (HloOp τ sig (Elt F)) := [
  StableHlo.nullary main_cst_2 (constant S_ .f32 0x3F000000#32),
  StableHlo.unary main_cst_2 main_v59 (broadcastInDim S8x49104 ![] bcast_S_S8x49104 : (⟨S_, .f32⟩ : BufTy).Contents (Elt F) → (⟨S8x49104, .f32⟩ : BufTy).Contents (Elt F)),
  StableHlo.binary main_v53 main_v59 main_v60 (cmpf .oge : (⟨S8x49104, .f32⟩ : BufTy).Contents (Elt F) → (⟨S8x49104, .f32⟩ : BufTy).Contents (Elt F) → (⟨S8x49104, .i1⟩ : BufTy).Contents (Elt F)),
  StableHlo.nullary main_cst_3 (constant S_ .f32 0x3ECCCCCD#32),
  StableHlo.unary main_cst_3 main_v61 (broadcastInDim S8x49104 ![] bcast_S_S8x49104 : (⟨S_, .f32⟩ : BufTy).Contents (Elt F) → (⟨S8x49104, .f32⟩ : BufTy).Contents (Elt F)),
  StableHlo.binary main_v53 main_v61 main_v62 (cmpf .oge : (⟨S8x49104, .f32⟩ : BufTy).Contents (Elt F) → (⟨S8x49104, .f32⟩ : BufTy).Contents (Elt F) → (⟨S8x49104, .i1⟩ : BufTy).Contents (Elt F)),
  StableHlo.nullary main_cst_4 (constant S_ .f32 0x3F000000#32),
  StableHlo.unary main_cst_4 main_v63 (broadcastInDim S8x49104 ![] bcast_S_S8x49104 : (⟨S_, .f32⟩ : BufTy).Contents (Elt F) → (⟨S8x49104, .f32⟩ : BufTy).Contents (Elt F)),
  StableHlo.binary main_v53 main_v63 main_v64 (cmpf .olt : (⟨S8x49104, .f32⟩ : BufTy).Contents (Elt F) → (⟨S8x49104, .f32⟩ : BufTy).Contents (Elt F) → (⟨S8x49104, .i1⟩ : BufTy).Contents (Elt F)),
  StableHlo.binary main_v62 main_v64 main_v65 (andi : (⟨S8x49104, .i1⟩ : BufTy).Contents (Elt F) → (⟨S8x49104, .i1⟩ : BufTy).Contents (Elt F) → (⟨S8x49104, .i1⟩ : BufTy).Contents (Elt F)),
  StableHlo.unary main_v60 main_v66 (broadcastInDim S8x49104x1 ![0, 1] bcast_S8x49104_S8x49104x1_0_1 : (⟨S8x49104, .i1⟩ : BufTy).Contents (Elt F) → (⟨S8x49104x1, .i1⟩ : BufTy).Contents (Elt F)),
  StableHlo.unary main_v66 main_v67 (broadcastInDim S8x49104x80 ![0, 1, 2] bcast_S8x49104x1_S8x49104x80_0_1_2 : (⟨S8x49104x1, .i1⟩ : BufTy).Contents (Elt F) → (⟨S8x49104x80, .i1⟩ : BufTy).Contents (Elt F)),
  StableHlo.binary main_v67 main_v58 main_v68 (andi : (⟨S8x49104x80, .i1⟩ : BufTy).Contents (Elt F) → (⟨S8x49104x80, .i1⟩ : BufTy).Contents (Elt F) → (⟨S8x49104x80, .i1⟩ : BufTy).Contents (Elt F)),
  StableHlo.unary main_v65 main_v69 (broadcastInDim S8x49104x1 ![0, 1] bcast_S8x49104_S8x49104x1_0_1 : (⟨S8x49104, .i1⟩ : BufTy).Contents (Elt F) → (⟨S8x49104x1, .i1⟩ : BufTy).Contents (Elt F)),
  StableHlo.unary main_v69 main_v70 (broadcastInDim S8x49104x80 ![0, 1, 2] bcast_S8x49104x1_S8x49104x80_0_1_2 : (⟨S8x49104x1, .i1⟩ : BufTy).Contents (Elt F) → (⟨S8x49104x80, .i1⟩ : BufTy).Contents (Elt F)),
  StableHlo.binary main_v70 main_v58 main_v71 (andi : (⟨S8x49104x80, .i1⟩ : BufTy).Contents (Elt F) → (⟨S8x49104x80, .i1⟩ : BufTy).Contents (Elt F) → (⟨S8x49104x80, .i1⟩ : BufTy).Contents (Elt F)),
  StableHlo.nullary main_cst_5 (constant S_ .f32 0xBF800000#32),
  StableHlo.nullary main_cst_6 (constant S_ .f32 0x00000000#32),
  StableHlo.TRef.unary (.of main_cst_5 : TRef sig ⟨S_, .f32⟩) (.of main_call4_v0 : TRef sig ⟨S49104x80, .f32⟩) (broadcastInDim S49104x80 ![] bcast_S_S49104x80),
  StableHlo.TRef.unary (.of main_cst_6 : TRef sig ⟨S_, .f32⟩) (.of main_call4_v1 : TRef sig ⟨S49104x80, .f32⟩) (broadcastInDim S49104x80 ![] bcast_S_S49104x80),
  StableHlo.TRef.unary (.of main_call4_v1 : TRef sig ⟨S49104x80, .f32⟩) (.of main_call4_v2 : TRef sig ⟨S8x49104x80, .f32⟩) (broadcastInDim S8x49104x80 ![1, 2] bcast_S49104x80_S8x49104x80_1_2),
  StableHlo.TRef.unary (.of main_call4_v0 : TRef sig ⟨S49104x80, .f32⟩) (.of main_call4_v3 : TRef sig ⟨S8x49104x80, .f32⟩) (broadcastInDim S8x49104x80 ![1, 2] bcast_S49104x80_S8x49104x80_1_2),
  StableHlo.TRef.ternary (.of main_v71 : TRef sig ⟨S8x49104x80, .i1⟩) (.of main_call4_v3 : TRef sig ⟨S8x49104x80, .f32⟩) (.of main_call4_v2 : TRef sig ⟨S8x49104x80, .f32⟩) (.of main_v72 : TRef sig ⟨S8x49104x80, .f32⟩) select,
  StableHlo.nullary main_cst_7 (constant S_ .f32 0x3F800000#32),
  StableHlo.TRef.unary (.of main_cst_7 : TRef sig ⟨S_, .f32⟩) (.of main_call5_v0 : TRef sig ⟨S49104x80, .f32⟩) (broadcastInDim S49104x80 ![] bcast_S_S49104x80),
  StableHlo.TRef.unary (.of main_call5_v0 : TRef sig ⟨S49104x80, .f32⟩) (.of main_call5_v1 : TRef sig ⟨S8x49104x80, .f32⟩) (broadcastInDim S8x49104x80 ![1, 2] bcast_S49104x80_S8x49104x80_1_2),
  StableHlo.TRef.ternary (.of main_v68 : TRef sig ⟨S8x49104x80, .i1⟩) (.of main_call5_v1 : TRef sig ⟨S8x49104x80, .f32⟩) (.of main_v72 : TRef sig ⟨S8x49104x80, .f32⟩) (.of main_v73 : TRef sig ⟨S8x49104x80, .f32⟩) select,
  StableHlo.unary main_v60 main_v74 (uitofp .f32 : (⟨S8x49104, .i1⟩ : BufTy).Contents (Elt F) → (⟨S8x49104, .f32⟩ : BufTy).Contents (Elt F)),
  StableHlo.nullary main_cst_8 (constant S_ .f32 0x00000000#32),
  StableHlo.binary main_v74 main_cst_8 main_v75 ((fun x v => Host.reduceAdd x v reducesTo_S8x49104_S8_d1 h_S_) : (⟨S8x49104, .f32⟩ : BufTy).Contents (Elt F) → (⟨S_, .f32⟩ : BufTy).Contents (Elt F) → (⟨S8, .f32⟩ : BufTy).Contents (Elt F))]

/-- Operations: the loss of every score. -/
def opsE : List (HloOp τ sig (Elt F)) := [
  StableHlo.nullary main_cst_9 (constant S_ .f32 0x00000000#32),
  StableHlo.unary main_cst_9 main_v76 (broadcastInDim S8x49104x80 ![] bcast_S_S8x49104x80 : (⟨S_, .f32⟩ : BufTy).Contents (Elt F) → (⟨S8x49104x80, .f32⟩ : BufTy).Contents (Elt F)),
  StableHlo.binary main_v73 main_v76 main_v77 (cmpf .oeq : (⟨S8x49104x80, .f32⟩ : BufTy).Contents (Elt F) → (⟨S8x49104x80, .f32⟩ : BufTy).Contents (Elt F) → (⟨S8x49104x80, .i1⟩ : BufTy).Contents (Elt F)),
  StableHlo.nullary main_cst_10 (constant S_ .f32 0xBF800000#32),
  StableHlo.unary main_cst_10 main_v78 (broadcastInDim S8x49104x80 ![] bcast_S_S8x49104x80 : (⟨S_, .f32⟩ : BufTy).Contents (Elt F) → (⟨S8x49104x80, .f32⟩ : BufTy).Contents (Elt F)),
  StableHlo.binary main_v73 main_v78 main_v79 (cmpf .oeq : (⟨S8x49104x80, .f32⟩ : BufTy).Contents (Elt F) → (⟨S8x49104x80, .f32⟩ : BufTy).Contents (Elt F) → (⟨S8x49104x80, .i1⟩ : BufTy).Contents (Elt F)),
  StableHlo.nullary main_c (constantI S_ 1 0#1),
  StableHlo.unary main_c main_v80 (broadcastInDim S8x49104x80 ![] bcast_S_S8x49104x80 : (⟨S_, .i1⟩ : BufTy).Contents (Elt F) → (⟨S8x49104x80, .i1⟩ : BufTy).Contents (Elt F)),
  StableHlo.binary main_v77 main_v80 main_v81 (cmpi .ne : (⟨S8x49104x80, .i1⟩ : BufTy).Contents (Elt F) → (⟨S8x49104x80, .i1⟩ : BufTy).Contents (Elt F) → (⟨S8x49104x80, .i1⟩ : BufTy).Contents (Elt F)),
  StableHlo.unary main_v81 main_v82 (id : (⟨S8x49104x80, .i1⟩ : BufTy).Contents (Elt F) → (⟨S8x49104x80, .i1⟩ : BufTy).Contents (Elt F)),
  StableHlo.nullary main_c_11 (constantI S_ 1 0#1),
  StableHlo.unary main_c_11 main_v83 (broadcastInDim S8x49104x80 ![] bcast_S_S8x49104x80 : (⟨S_, .i1⟩ : BufTy).Contents (Elt F) → (⟨S8x49104x80, .i1⟩ : BufTy).Contents (Elt F)),
  StableHlo.binary main_v79 main_v83 main_v84 (cmpi .ne : (⟨S8x49104x80, .i1⟩ : BufTy).Contents (Elt F) → (⟨S8x49104x80, .i1⟩ : BufTy).Contents (Elt F) → (⟨S8x49104x80, .i1⟩ : BufTy).Contents (Elt F)),
  StableHlo.unary main_v84 main_v85 (id : (⟨S8x49104x80, .i1⟩ : BufTy).Contents (Elt F) → (⟨S8x49104x80, .i1⟩ : BufTy).Contents (Elt F)),
  StableHlo.binary main_v82 main_v85 main_v86 (ori : (⟨S8x49104x80, .i1⟩ : BufTy).Contents (Elt F) → (⟨S8x49104x80, .i1⟩ : BufTy).Contents (Elt F) → (⟨S8x49104x80, .i1⟩ : BufTy).Contents (Elt F)),
  StableHlo.nullary main_cst_12 (constant S_ .f32 0x3F800000#32),
  StableHlo.unary main_cst_12 main_v87 (broadcastInDim S8x49104x80 ![] bcast_S_S8x49104x80 : (⟨S_, .f32⟩ : BufTy).Contents (Elt F) → (⟨S8x49104x80, .f32⟩ : BufTy).Contents (Elt F)),
  StableHlo.binary main_v87 main_arg0 main_v88 (subf : (⟨S8x49104x80, .f32⟩ : BufTy).Contents (Elt F) → (⟨S8x49104x80, .f32⟩ : BufTy).Contents (Elt F) → (⟨S8x49104x80, .f32⟩ : BufTy).Contents (Elt F)),
  StableHlo.nullary main_cst_13 (constant S_ .f32 0x40000000#32),
  StableHlo.unary main_cst_13 main_v89 (broadcastInDim S8x49104x80 ![] bcast_S_S8x49104x80 : (⟨S_, .f32⟩ : BufTy).Contents (Elt F) → (⟨S8x49104x80, .f32⟩ : BufTy).Contents (Elt F)),
  StableHlo.binary main_v88 main_v89 main_v90 (Host.powf : (⟨S8x49104x80, .f32⟩ : BufTy).Contents (Elt F) → (⟨S8x49104x80, .f32⟩ : BufTy).Contents (Elt F) → (⟨S8x49104x80, .f32⟩ : BufTy).Contents (Elt F)),
  StableHlo.nullary main_cst_14 (constant S_ .f32 0x3E800000#32),
  StableHlo.unary main_cst_14 main_v91 (broadcastInDim S8x49104x80 ![] bcast_S_S8x49104x80 : (⟨S_, .f32⟩ : BufTy).Contents (Elt F) → (⟨S8x49104x80, .f32⟩ : BufTy).Contents (Elt F)),
  StableHlo.binary main_v91 main_v90 main_v92 (mulf : (⟨S8x49104x80, .f32⟩ : BufTy).Contents (Elt F) → (⟨S8x49104x80, .f32⟩ : BufTy).Contents (Elt F) → (⟨S8x49104x80, .f32⟩ : BufTy).Contents (Elt F)),
  StableHlo.unary main_v73 main_v93 (id : (⟨S8x49104x80, .f32⟩ : BufTy).Contents (Elt F) → (⟨S8x49104x80, .f32⟩ : BufTy).Contents (Elt F)),
  StableHlo.binary main_v92 main_v93 main_v94 (mulf : (⟨S8x49104x80, .f32⟩ : BufTy).Contents (Elt F) → (⟨S8x49104x80, .f32⟩ : BufTy).Contents (Elt F) → (⟨S8x49104x80, .f32⟩ : BufTy).Contents (Elt F)),
  StableHlo.unary main_arg0 main_v95 (Host.log : (⟨S8x49104x80, .f32⟩ : BufTy).Contents (Elt F) → (⟨S8x49104x80, .f32⟩ : BufTy).Contents (Elt F)),
  StableHlo.unary main_v95 main_v96 (Host.negf : (⟨S8x49104x80, .f32⟩ : BufTy).Contents (Elt F) → (⟨S8x49104x80, .f32⟩ : BufTy).Contents (Elt F)),
  StableHlo.binary main_v94 main_v96 main_v97 (mulf : (⟨S8x49104x80, .f32⟩ : BufTy).Contents (Elt F) → (⟨S8x49104x80, .f32⟩ : BufTy).Contents (Elt F) → (⟨S8x49104x80, .f32⟩ : BufTy).Contents (Elt F)),
  StableHlo.nullary main_cst_15 (constant S_ .f32 0x00000000#32),
  StableHlo.TRef.unary (.of main_cst_15 : TRef sig ⟨S_, .f32⟩) (.of main_call6_v0 : TRef sig ⟨S_, .f32⟩) id,
  StableHlo.TRef.unary (.of main_call6_v0 : TRef sig ⟨S_, .f32⟩) (.of main_call6_v1 : TRef sig ⟨S49104x80, .f32⟩) (broadcastInDim S49104x80 ![] bcast_S_S49104x80),
  StableHlo.TRef.unary (.of main_call6_v1 : TRef sig ⟨S49104x80, .f32⟩) (.of main_call6_v2 : TRef sig ⟨S8x49104x80, .f32⟩) (broadcastInDim S8x49104x80 ![1, 2] bcast_S49104x80_S8x49104x80_1_2),
  StableHlo.TRef.ternary (.of main_v86 : TRef sig ⟨S8x49104x80, .i1⟩) (.of main_call6_v2 : TRef sig ⟨S8x49104x80, .f32⟩) (.of main_v97 : TRef sig ⟨S8x49104x80, .f32⟩) (.of main_v98 : TRef sig ⟨S8x49104x80, .f32⟩) select,
  StableHlo.nullary main_cst_16 (constant S_ .f32 0x3F800000#32),
  StableHlo.unary main_cst_16 main_v99 (broadcastInDim S8x49104x80 ![] bcast_S_S8x49104x80 : (⟨S_, .f32⟩ : BufTy).Contents (Elt F) → (⟨S8x49104x80, .f32⟩ : BufTy).Contents (Elt F)),
  StableHlo.binary main_v73 main_v99 main_v100 (cmpf .oeq : (⟨S8x49104x80, .f32⟩ : BufTy).Contents (Elt F) → (⟨S8x49104x80, .f32⟩ : BufTy).Contents (Elt F) → (⟨S8x49104x80, .i1⟩ : BufTy).Contents (Elt F)),
  StableHlo.nullary main_cst_17 (constant S_ .f32 0xBF800000#32),
  StableHlo.unary main_cst_17 main_v101 (broadcastInDim S8x49104x80 ![] bcast_S_S8x49104x80 : (⟨S_, .f32⟩ : BufTy).Contents (Elt F) → (⟨S8x49104x80, .f32⟩ : BufTy).Contents (Elt F)),
  StableHlo.binary main_v73 main_v101 main_v102 (cmpf .oeq : (⟨S8x49104x80, .f32⟩ : BufTy).Contents (Elt F) → (⟨S8x49104x80, .f32⟩ : BufTy).Contents (Elt F) → (⟨S8x49104x80, .i1⟩ : BufTy).Contents (Elt F)),
  StableHlo.nullary main_c_18 (constantI S_ 1 0#1),
  StableHlo.unary main_c_18 main_v103 (broadcastInDim S8x49104x80 ![] bcast_S_S8x49104x80 : (⟨S_, .i1⟩ : BufTy).Contents (Elt F) → (⟨S8x49104x80, .i1⟩ : BufTy).Contents (Elt F)),
  StableHlo.binary main_v100 main_v103 main_v104 (cmpi .ne : (⟨S8x49104x80, .i1⟩ : BufTy).Contents (Elt F) → (⟨S8x49104x80, .i1⟩ : BufTy).Contents (Elt F) → (⟨S8x49104x80, .i1⟩ : BufTy).Contents (Elt F)),
  StableHlo.unary main_v104 main_v105 (id : (⟨S8x49104x80, .i1⟩ : BufTy).Contents (Elt F) → (⟨S8x49104x80, .i1⟩ : BufTy).Contents (Elt F)),
  StableHlo.nullary main_c_19 (constantI S_ 1 0#1),
  StableHlo.unary main_c_19 main_v106 (broadcastInDim S8x49104x80 ![] bcast_S_S8x49104x80 : (⟨S_, .i1⟩ : BufTy).Contents (Elt F) → (⟨S8x49104x80, .i1⟩ : BufTy).Contents (Elt F)),
  StableHlo.binary main_v102 main_v106 main_v107 (cmpi .ne : (⟨S8x49104x80, .i1⟩ : BufTy).Contents (Elt F) → (⟨S8x49104x80, .i1⟩ : BufTy).Contents (Elt F) → (⟨S8x49104x80, .i1⟩ : BufTy).Contents (Elt F)),
  StableHlo.unary main_v107 main_v108 (id : (⟨S8x49104x80, .i1⟩ : BufTy).Contents (Elt F) → (⟨S8x49104x80, .i1⟩ : BufTy).Contents (Elt F)),
  StableHlo.binary main_v105 main_v108 main_v109 (ori : (⟨S8x49104x80, .i1⟩ : BufTy).Contents (Elt F) → (⟨S8x49104x80, .i1⟩ : BufTy).Contents (Elt F) → (⟨S8x49104x80, .i1⟩ : BufTy).Contents (Elt F)),
  StableHlo.nullary main_cst_20 (constant S_ .f32 0x40000000#32),
  StableHlo.unary main_cst_20 main_v110 (broadcastInDim S8x49104x80 ![] bcast_S_S8x49104x80 : (⟨S_, .f32⟩ : BufTy).Contents (Elt F) → (⟨S8x49104x80, .f32⟩ : BufTy).Contents (Elt F)),
  StableHlo.binary main_arg0 main_v110 main_v111 (Host.powf : (⟨S8x49104x80, .f32⟩ : BufTy).Contents (Elt F) → (⟨S8x49104x80, .f32⟩ : BufTy).Contents (Elt F) → (⟨S8x49104x80, .f32⟩ : BufTy).Contents (Elt F)),
  StableHlo.nullary main_cst_21 (constant S_ .f32 0x3F400000#32),
  StableHlo.unary main_cst_21 main_v112 (broadcastInDim S8x49104x80 ![] bcast_S_S8x49104x80 : (⟨S_, .f32⟩ : BufTy).Contents (Elt F) → (⟨S8x49104x80, .f32⟩ : BufTy).Contents (Elt F)),
  StableHlo.binary main_v112 main_v111 main_v113 (mulf : (⟨S8x49104x80, .f32⟩ : BufTy).Contents (Elt F) → (⟨S8x49104x80, .f32⟩ : BufTy).Contents (Elt F) → (⟨S8x49104x80, .f32⟩ : BufTy).Contents (Elt F)),
  StableHlo.nullary main_cst_22 (constant S_ .f32 0x3F800000#32),
  StableHlo.unary main_cst_22 main_v114 (broadcastInDim S8x49104x80 ![] bcast_S_S8x49104x80 : (⟨S_, .f32⟩ : BufTy).Contents (Elt F) → (⟨S8x49104x80, .f32⟩ : BufTy).Contents (Elt F)),
  StableHlo.binary main_v114 main_v73 main_v115 (subf : (⟨S8x49104x80, .f32⟩ : BufTy).Contents (Elt F) → (⟨S8x49104x80, .f32⟩ : BufTy).Contents (Elt F) → (⟨S8x49104x80, .f32⟩ : BufTy).Contents (Elt F)),
  StableHlo.unary main_v115 main_v116 (id : (⟨S8x49104x80, .f32⟩ : BufTy).Contents (Elt F) → (⟨S8x49104x80, .f32⟩ : BufTy).Contents (Elt F)),
  StableHlo.binary main_v113 main_v116 main_v117 (mulf : (⟨S8x49104x80, .f32⟩ : BufTy).Contents (Elt F) → (⟨S8x49104x80, .f32⟩ : BufTy).Contents (Elt F) → (⟨S8x49104x80, .f32⟩ : BufTy).Contents (Elt F)),
  StableHlo.nullary main_cst_23 (constant S_ .f32 0x3F800000#32),
  StableHlo.unary main_cst_23 main_v118 (broadcastInDim S8x49104x80 ![] bcast_S_S8x49104x80 : (⟨S_, .f32⟩ : BufTy).Contents (Elt F) → (⟨S8x49104x80, .f32⟩ : BufTy).Contents (Elt F)),
  StableHlo.binary main_v118 main_arg0 main_v119 (subf : (⟨S8x49104x80, .f32⟩ : BufTy).Contents (Elt F) → (⟨S8x49104x80, .f32⟩ : BufTy).Contents (Elt F) → (⟨S8x49104x80, .f32⟩ : BufTy).Contents (Elt F)),
  StableHlo.unary main_v119 main_v120 (Host.log : (⟨S8x49104x80, .f32⟩ : BufTy).Contents (Elt F) → (⟨S8x49104x80, .f32⟩ : BufTy).Contents (Elt F)),
  StableHlo.unary main_v120 main_v121 (Host.negf : (⟨S8x49104x80, .f32⟩ : BufTy).Contents (Elt F) → (⟨S8x49104x80, .f32⟩ : BufTy).Contents (Elt F)),
  StableHlo.binary main_v117 main_v121 main_v122 (mulf : (⟨S8x49104x80, .f32⟩ : BufTy).Contents (Elt F) → (⟨S8x49104x80, .f32⟩ : BufTy).Contents (Elt F) → (⟨S8x49104x80, .f32⟩ : BufTy).Contents (Elt F)),
  StableHlo.nullary main_cst_24 (constant S_ .f32 0x00000000#32),
  StableHlo.TRef.unary (.of main_cst_24 : TRef sig ⟨S_, .f32⟩) (.of main_call7_v0 : TRef sig ⟨S_, .f32⟩) id,
  StableHlo.TRef.unary (.of main_call7_v0 : TRef sig ⟨S_, .f32⟩) (.of main_call7_v1 : TRef sig ⟨S49104x80, .f32⟩) (broadcastInDim S49104x80 ![] bcast_S_S49104x80),
  StableHlo.TRef.unary (.of main_call7_v1 : TRef sig ⟨S49104x80, .f32⟩) (.of main_call7_v2 : TRef sig ⟨S8x49104x80, .f32⟩) (broadcastInDim S8x49104x80 ![1, 2] bcast_S49104x80_S8x49104x80_1_2),
  StableHlo.TRef.ternary (.of main_v109 : TRef sig ⟨S8x49104x80, .i1⟩) (.of main_call7_v2 : TRef sig ⟨S8x49104x80, .f32⟩) (.of main_v122 : TRef sig ⟨S8x49104x80, .f32⟩) (.of main_v123 : TRef sig ⟨S8x49104x80, .f32⟩) select,
  StableHlo.binary main_v98 main_v123 main_v124 (addf : (⟨S8x49104x80, .f32⟩ : BufTy).Contents (Elt F) → (⟨S8x49104x80, .f32⟩ : BufTy).Contents (Elt F) → (⟨S8x49104x80, .f32⟩ : BufTy).Contents (Elt F))]

/-- Operations: each image's classification loss. -/
def opsF : List (HloOp τ sig (Elt F)) := [
  StableHlo.nullary main_cst_25 (constant S_ .f32 0x00000000#32),
  StableHlo.binary main_v124 main_cst_25 main_v125 ((fun x v => Host.reduceAdd x v reducesTo_S8x49104x80_S8_d1_2 h_S_) : (⟨S8x49104x80, .f32⟩ : BufTy).Contents (Elt F) → (⟨S_, .f32⟩ : BufTy).Contents (Elt F) → (⟨S8, .f32⟩ : BufTy).Contents (Elt F)),
  StableHlo.nullary main_cst_26 (constant S_ .f32 0x3F800000#32),
  StableHlo.unary main_cst_26 main_v126 (broadcastInDim S8 ![] bcast_S_S8 : (⟨S_, .f32⟩ : BufTy).Contents (Elt F) → (⟨S8, .f32⟩ : BufTy).Contents (Elt F)),
  StableHlo.binary main_v75 main_v126 main_v127 (maximumf : (⟨S8, .f32⟩ : BufTy).Contents (Elt F) → (⟨S8, .f32⟩ : BufTy).Contents (Elt F) → (⟨S8, .f32⟩ : BufTy).Contents (Elt F)),
  StableHlo.binary main_v125 main_v127 main_v128 (Host.divf : (⟨S8, .f32⟩ : BufTy).Contents (Elt F) → (⟨S8, .f32⟩ : BufTy).Contents (Elt F) → (⟨S8, .f32⟩ : BufTy).Contents (Elt F))]

/-- Operations: each anchor's box. -/
def opsG : List (HloOp τ sig (Elt F)) := [
  StableHlo.TRef.nullary (.of main_call8_c : TRef sig ⟨S_, .i32⟩) (constantI S_ 32 0#32),
  StableHlo.TRef.unary (.of main_call8_c : TRef sig ⟨S_, .i32⟩) (.of main_call8_v0 : TRef sig ⟨S8x49104, .i32⟩) (broadcastInDim S8x49104 ![] bcast_S_S8x49104),
  StableHlo.TRef.binary (.of main_v54 : TRef sig ⟨S8x49104, .i32⟩) (.of main_call8_v0 : TRef sig ⟨S8x49104, .i32⟩) (.of main_call8_v1 : TRef sig ⟨S8x49104, .i1⟩) (cmpi .slt),
  StableHlo.TRef.nullary (.of main_call8_c_0 : TRef sig ⟨S_, .i32⟩) (constantI S_ 32 32#32),
  StableHlo.TRef.unary (.of main_call8_c_0 : TRef sig ⟨S_, .i32⟩) (.of main_call8_v2 : TRef sig ⟨S8x49104, .i32⟩) (broadcastInDim S8x49104 ![] bcast_S_S8x49104),
  StableHlo.TRef.binary (.of main_v54 : TRef sig ⟨S8x49104, .i32⟩) (.of main_call8_v2 : TRef sig ⟨S8x49104, .i32⟩) (.of main_call8_v3 : TRef sig ⟨S8x49104, .i32⟩) addi,
  StableHlo.TRef.ternary (.of main_call8_v1 : TRef sig ⟨S8x49104, .i1⟩) (.of main_call8_v3 : TRef sig ⟨S8x49104, .i32⟩) (.of main_v54 : TRef sig ⟨S8x49104, .i32⟩) (.of main_call8_v4 : TRef sig ⟨S8x49104, .i32⟩) select,
  StableHlo.TRef.unary (.of main_call8_v4 : TRef sig ⟨S8x49104, .i32⟩) (.of main_call8_v5 : TRef sig ⟨S8x49104x1, .i32⟩) (broadcastInDim S8x49104x1 ![0, 1] bcast_S8x49104_S8x49104x1_0_1),
  StableHlo.TRef.nullary (.of main_call8_c_1 : TRef sig ⟨S1, .i32⟩) (constantI S1 32 31#32),
  StableHlo.TRef.nullary (.of main_call8_c_2 : TRef sig ⟨S_, .i32⟩) (constantI S_ 32 0#32),
  StableHlo.TRef.unary (.of main_call8_c_2 : TRef sig ⟨S_, .i32⟩) (.of main_call8_v6 : TRef sig ⟨S8x49104x1, .i32⟩) (broadcastInDim S8x49104x1 ![] bcast_S_S8x49104x1),
  StableHlo.TRef.binary (.of main_call8_v5 : TRef sig ⟨S8x49104x1, .i32⟩) (.of main_call8_v6 : TRef sig ⟨S8x49104x1, .i32⟩) (.of main_call8_v7 : TRef sig ⟨S8x49104x1, .i1⟩) (cmpi .sge),
  StableHlo.TRef.unary (.of main_call8_c_1 : TRef sig ⟨S1, .i32⟩) (.of main_call8_v8 : TRef sig ⟨S1x1x1, .i32⟩) (broadcastInDim S1x1x1 ![2] bcast_S1_S1x1x1_2),
  StableHlo.TRef.unary (.of main_call8_v8 : TRef sig ⟨S1x1x1, .i32⟩) (.of main_call8_v9 : TRef sig ⟨S8x49104x1, .i32⟩) (broadcastInDim S8x49104x1 ![0, 1, 2] bcast_S1x1x1_S8x49104x1_0_1_2),
  StableHlo.TRef.binary (.of main_call8_v5 : TRef sig ⟨S8x49104x1, .i32⟩) (.of main_call8_v9 : TRef sig ⟨S8x49104x1, .i32⟩) (.of main_call8_v10 : TRef sig ⟨S8x49104x1, .i1⟩) (cmpi .sle),
  StableHlo.TRef.binary (.of main_call8_v7 : TRef sig ⟨S8x49104x1, .i1⟩) (.of main_call8_v10 : TRef sig ⟨S8x49104x1, .i1⟩) (.of main_call8_v11 : TRef sig ⟨S8x49104x1, .i1⟩) andi,
  StableHlo.TRef.nullary (.of main_call8_c_3 : TRef sig ⟨S_, .i1⟩) (constantI S_ 1 1#1),
  StableHlo.TRef.binary (.of main_call8_v11 : TRef sig ⟨S8x49104x1, .i1⟩) (.of main_call8_c_3 : TRef sig ⟨S_, .i1⟩) (.of main_call8_v12 : TRef sig ⟨S8x49104, .i1⟩) (fun x v => Host.reduce IntOp.andi x v reducesTo_S8x49104x1_S8x49104_d2 h_S_),
  StableHlo.TRef.binary (.of main_arg4 : TRef sig ⟨S8x32x4, .f32⟩) (.of main_call8_v5 : TRef sig ⟨S8x49104x1, .i32⟩) (.of main_call8_v13 : TRef sig ⟨S8x49104x4, .f32⟩) (fun x i => Host.gather gather_S8x32x4_S8x49104x1_S8x49104x4_2_1_0_0_1_2_114 x i),
  StableHlo.TRef.unary (.of main_call8_v12 : TRef sig ⟨S8x49104, .i1⟩) (.of main_call8_v14 : TRef sig ⟨S8x49104x4, .i1⟩) (broadcastInDim S8x49104x4 ![0, 1] bcast_S8x49104_S8x49104x4_0_1),
  StableHlo.TRef.nullary (.of main_call8_cst : TRef sig ⟨S_, .f32⟩) (constant S_ .f32 0x7FC00000#32),
  StableHlo.TRef.unary (.of main_call8_cst : TRef sig ⟨S_, .f32⟩) (.of main_call8_v15 : TRef sig ⟨S8x49104x4, .f32⟩) (broadcastInDim S8x49104x4 ![] bcast_S_S8x49104x4),
  StableHlo.TRef.ternary (.of main_call8_v14 : TRef sig ⟨S8x49104x4, .i1⟩) (.of main_call8_v13 : TRef sig ⟨S8x49104x4, .f32⟩) (.of main_call8_v15 : TRef sig ⟨S8x49104x4, .f32⟩) (.of main_v129 : TRef sig ⟨S8x49104x4, .f32⟩) select]

/-- Operations: the encoded box. -/
def opsH : List (HloOp τ sig (Elt F)) := [
  StableHlo.unary main_arg2 main_v130 ((extractStridedSlice S49104x1 ![0, 2] · slices_S49104x4_S49104x1_0_2) : (⟨S49104x4, .f32⟩ : BufTy).Contents (Elt F) → (⟨S49104x1, .f32⟩ : BufTy).Contents (Elt F)),
  StableHlo.reshape main_v130 main_v131 (rfl : (.f32 : EltTy) = .f32) shapeCasts_S49104x1_S49104,
  StableHlo.unary main_arg2 main_v132 ((extractStridedSlice S49104x1 ![0, 0] · slices_S49104x4_S49104x1_0_0) : (⟨S49104x4, .f32⟩ : BufTy).Contents (Elt F) → (⟨S49104x1, .f32⟩ : BufTy).Contents (Elt F)),
  StableHlo.reshape main_v132 main_v133 (rfl : (.f32 : EltTy) = .f32) shapeCasts_S49104x1_S49104,
  StableHlo.binary main_v131 main_v133 main_v134 (subf : (⟨S49104, .f32⟩ : BufTy).Contents (Elt F) → (⟨S49104, .f32⟩ : BufTy).Contents (Elt F) → (⟨S49104, .f32⟩ : BufTy).Contents (Elt F)),
  StableHlo.unary main_arg2 main_v135 ((extractStridedSlice S49104x1 ![0, 3] · slices_S49104x4_S49104x1_0_3) : (⟨S49104x4, .f32⟩ : BufTy).Contents (Elt F) → (⟨S49104x1, .f32⟩ : BufTy).Contents (Elt F)),
  StableHlo.reshape main_v135 main_v136 (rfl : (.f32 : EltTy) = .f32) shapeCasts_S49104x1_S49104,
  StableHlo.unary main_arg2 main_v137 ((extractStridedSlice S49104x1 ![0, 1] · slices_S49104x4_S49104x1_0_1) : (⟨S49104x4, .f32⟩ : BufTy).Contents (Elt F) → (⟨S49104x1, .f32⟩ : BufTy).Contents (Elt F)),
  StableHlo.reshape main_v137 main_v138 (rfl : (.f32 : EltTy) = .f32) shapeCasts_S49104x1_S49104,
  StableHlo.binary main_v136 main_v138 main_v139 (subf : (⟨S49104, .f32⟩ : BufTy).Contents (Elt F) → (⟨S49104, .f32⟩ : BufTy).Contents (Elt F) → (⟨S49104, .f32⟩ : BufTy).Contents (Elt F)),
  StableHlo.unary main_arg2 main_v140 ((extractStridedSlice S49104x1 ![0, 0] · slices_S49104x4_S49104x1_0_0) : (⟨S49104x4, .f32⟩ : BufTy).Contents (Elt F) → (⟨S49104x1, .f32⟩ : BufTy).Contents (Elt F)),
  StableHlo.reshape main_v140 main_v141 (rfl : (.f32 : EltTy) = .f32) shapeCasts_S49104x1_S49104,
  StableHlo.nullary main_cst_27 (constant S_ .f32 0x3F000000#32),
  StableHlo.unary main_cst_27 main_v142 (broadcastInDim S49104 ![] bcast_S_S49104 : (⟨S_, .f32⟩ : BufTy).Contents (Elt F) → (⟨S49104, .f32⟩ : BufTy).Contents (Elt F)),
  StableHlo.binary main_v142 main_v134 main_v143 (mulf : (⟨S49104, .f32⟩ : BufTy).Contents (Elt F) → (⟨S49104, .f32⟩ : BufTy).Contents (Elt F) → (⟨S49104, .f32⟩ : BufTy).Contents (Elt F)),
  StableHlo.binary main_v141 main_v143 main_v144 (addf : (⟨S49104, .f32⟩ : BufTy).Contents (Elt F) → (⟨S49104, .f32⟩ : BufTy).Contents (Elt F) → (⟨S49104, .f32⟩ : BufTy).Contents (Elt F)),
  StableHlo.unary main_arg2 main_v145 ((extractStridedSlice S49104x1 ![0, 1] · slices_S49104x4_S49104x1_0_1) : (⟨S49104x4, .f32⟩ : BufTy).Contents (Elt F) → (⟨S49104x1, .f32⟩ : BufTy).Contents (Elt F)),
  StableHlo.reshape main_v145 main_v146 (rfl : (.f32 : EltTy) = .f32) shapeCasts_S49104x1_S49104,
  StableHlo.nullary main_cst_28 (constant S_ .f32 0x3F000000#32),
  StableHlo.unary main_cst_28 main_v147 (broadcastInDim S49104 ![] bcast_S_S49104 : (⟨S_, .f32⟩ : BufTy).Contents (Elt F) → (⟨S49104, .f32⟩ : BufTy).Contents (Elt F)),
  StableHlo.binary main_v147 main_v139 main_v148 (mulf : (⟨S49104, .f32⟩ : BufTy).Contents (Elt F) → (⟨S49104, .f32⟩ : BufTy).Contents (Elt F) → (⟨S49104, .f32⟩ : BufTy).Contents (Elt F)),
  StableHlo.binary main_v146 main_v148 main_v149 (addf : (⟨S49104, .f32⟩ : BufTy).Contents (Elt F) → (⟨S49104, .f32⟩ : BufTy).Contents (Elt F) → (⟨S49104, .f32⟩ : BufTy).Contents (Elt F)),
  StableHlo.unary main_v129 main_v150 ((extractStridedSlice S8x49104x1 ![0, 0, 2] · slices_S8x49104x4_S8x49104x1_0_0_2) : (⟨S8x49104x4, .f32⟩ : BufTy).Contents (Elt F) → (⟨S8x49104x1, .f32⟩ : BufTy).Contents (Elt F)),
  StableHlo.reshape main_v150 main_v151 (rfl : (.f32 : EltTy) = .f32) shapeCasts_S8x49104x1_S8x49104,
  StableHlo.unary main_v129 main_v152 ((extractStridedSlice S8x49104x1 ![0, 0, 0] · slices_S8x49104x4_S8x49104x1_0_0_0) : (⟨S8x49104x4, .f32⟩ : BufTy).Contents (Elt F) → (⟨S8x49104x1, .f32⟩ : BufTy).Contents (Elt F)),
  StableHlo.reshape main_v152 main_v153 (rfl : (.f32 : EltTy) = .f32) shapeCasts_S8x49104x1_S8x49104,
  StableHlo.binary main_v151 main_v153 main_v154 (subf : (⟨S8x49104, .f32⟩ : BufTy).Contents (Elt F) → (⟨S8x49104, .f32⟩ : BufTy).Contents (Elt F) → (⟨S8x49104, .f32⟩ : BufTy).Contents (Elt F)),
  StableHlo.unary main_v129 main_v155 ((extractStridedSlice S8x49104x1 ![0, 0, 3] · slices_S8x49104x4_S8x49104x1_0_0_3) : (⟨S8x49104x4, .f32⟩ : BufTy).Contents (Elt F) → (⟨S8x49104x1, .f32⟩ : BufTy).Contents (Elt F)),
  StableHlo.reshape main_v155 main_v156 (rfl : (.f32 : EltTy) = .f32) shapeCasts_S8x49104x1_S8x49104,
  StableHlo.unary main_v129 main_v157 ((extractStridedSlice S8x49104x1 ![0, 0, 1] · slices_S8x49104x4_S8x49104x1_0_0_1) : (⟨S8x49104x4, .f32⟩ : BufTy).Contents (Elt F) → (⟨S8x49104x1, .f32⟩ : BufTy).Contents (Elt F)),
  StableHlo.reshape main_v157 main_v158 (rfl : (.f32 : EltTy) = .f32) shapeCasts_S8x49104x1_S8x49104,
  StableHlo.binary main_v156 main_v158 main_v159 (subf : (⟨S8x49104, .f32⟩ : BufTy).Contents (Elt F) → (⟨S8x49104, .f32⟩ : BufTy).Contents (Elt F) → (⟨S8x49104, .f32⟩ : BufTy).Contents (Elt F)),
  StableHlo.unary main_v129 main_v160 ((extractStridedSlice S8x49104x1 ![0, 0, 0] · slices_S8x49104x4_S8x49104x1_0_0_0) : (⟨S8x49104x4, .f32⟩ : BufTy).Contents (Elt F) → (⟨S8x49104x1, .f32⟩ : BufTy).Contents (Elt F)),
  StableHlo.reshape main_v160 main_v161 (rfl : (.f32 : EltTy) = .f32) shapeCasts_S8x49104x1_S8x49104,
  StableHlo.nullary main_cst_29 (constant S_ .f32 0x3F000000#32),
  StableHlo.unary main_cst_29 main_v162 (broadcastInDim S8x49104 ![] bcast_S_S8x49104 : (⟨S_, .f32⟩ : BufTy).Contents (Elt F) → (⟨S8x49104, .f32⟩ : BufTy).Contents (Elt F)),
  StableHlo.binary main_v162 main_v154 main_v163 (mulf : (⟨S8x49104, .f32⟩ : BufTy).Contents (Elt F) → (⟨S8x49104, .f32⟩ : BufTy).Contents (Elt F) → (⟨S8x49104, .f32⟩ : BufTy).Contents (Elt F)),
  StableHlo.binary main_v161 main_v163 main_v164 (addf : (⟨S8x49104, .f32⟩ : BufTy).Contents (Elt F) → (⟨S8x49104, .f32⟩ : BufTy).Contents (Elt F) → (⟨S8x49104, .f32⟩ : BufTy).Contents (Elt F)),
  StableHlo.unary main_v129 main_v165 ((extractStridedSlice S8x49104x1 ![0, 0, 1] · slices_S8x49104x4_S8x49104x1_0_0_1) : (⟨S8x49104x4, .f32⟩ : BufTy).Contents (Elt F) → (⟨S8x49104x1, .f32⟩ : BufTy).Contents (Elt F)),
  StableHlo.reshape main_v165 main_v166 (rfl : (.f32 : EltTy) = .f32) shapeCasts_S8x49104x1_S8x49104,
  StableHlo.nullary main_cst_30 (constant S_ .f32 0x3F000000#32),
  StableHlo.unary main_cst_30 main_v167 (broadcastInDim S8x49104 ![] bcast_S_S8x49104 : (⟨S_, .f32⟩ : BufTy).Contents (Elt F) → (⟨S8x49104, .f32⟩ : BufTy).Contents (Elt F)),
  StableHlo.binary main_v167 main_v159 main_v168 (mulf : (⟨S8x49104, .f32⟩ : BufTy).Contents (Elt F) → (⟨S8x49104, .f32⟩ : BufTy).Contents (Elt F) → (⟨S8x49104, .f32⟩ : BufTy).Contents (Elt F)),
  StableHlo.binary main_v166 main_v168 main_v169 (addf : (⟨S8x49104, .f32⟩ : BufTy).Contents (Elt F) → (⟨S8x49104, .f32⟩ : BufTy).Contents (Elt F) → (⟨S8x49104, .f32⟩ : BufTy).Contents (Elt F)),
  StableHlo.unary main_v144 main_v170 (broadcastInDim S1x49104 ![1] bcast_S49104_S1x49104_1 : (⟨S49104, .f32⟩ : BufTy).Contents (Elt F) → (⟨S1x49104, .f32⟩ : BufTy).Contents (Elt F)),
  StableHlo.unary main_v170 main_v171 (broadcastInDim S8x49104 ![0, 1] bcast_S1x49104_S8x49104_0_1 : (⟨S1x49104, .f32⟩ : BufTy).Contents (Elt F) → (⟨S8x49104, .f32⟩ : BufTy).Contents (Elt F)),
  StableHlo.binary main_v164 main_v171 main_v172 (subf : (⟨S8x49104, .f32⟩ : BufTy).Contents (Elt F) → (⟨S8x49104, .f32⟩ : BufTy).Contents (Elt F) → (⟨S8x49104, .f32⟩ : BufTy).Contents (Elt F)),
  StableHlo.unary main_v134 main_v173 (broadcastInDim S1x49104 ![1] bcast_S49104_S1x49104_1 : (⟨S49104, .f32⟩ : BufTy).Contents (Elt F) → (⟨S1x49104, .f32⟩ : BufTy).Contents (Elt F)),
  StableHlo.unary main_v173 main_v174 (broadcastInDim S8x49104 ![0, 1] bcast_S1x49104_S8x49104_0_1 : (⟨S1x49104, .f32⟩ : BufTy).Contents (Elt F) → (⟨S8x49104, .f32⟩ : BufTy).Contents (Elt F)),
  StableHlo.binary main_v172 main_v174 main_v175 (Host.divf : (⟨S8x49104, .f32⟩ : BufTy).Contents (Elt F) → (⟨S8x49104, .f32⟩ : BufTy).Contents (Elt F) → (⟨S8x49104, .f32⟩ : BufTy).Contents (Elt F)),
  StableHlo.unary main_v149 main_v176 (broadcastInDim S1x49104 ![1] bcast_S49104_S1x49104_1 : (⟨S49104, .f32⟩ : BufTy).Contents (Elt F) → (⟨S1x49104, .f32⟩ : BufTy).Contents (Elt F)),
  StableHlo.unary main_v176 main_v177 (broadcastInDim S8x49104 ![0, 1] bcast_S1x49104_S8x49104_0_1 : (⟨S1x49104, .f32⟩ : BufTy).Contents (Elt F) → (⟨S8x49104, .f32⟩ : BufTy).Contents (Elt F)),
  StableHlo.binary main_v169 main_v177 main_v178 (subf : (⟨S8x49104, .f32⟩ : BufTy).Contents (Elt F) → (⟨S8x49104, .f32⟩ : BufTy).Contents (Elt F) → (⟨S8x49104, .f32⟩ : BufTy).Contents (Elt F)),
  StableHlo.unary main_v139 main_v179 (broadcastInDim S1x49104 ![1] bcast_S49104_S1x49104_1 : (⟨S49104, .f32⟩ : BufTy).Contents (Elt F) → (⟨S1x49104, .f32⟩ : BufTy).Contents (Elt F)),
  StableHlo.unary main_v179 main_v180 (broadcastInDim S8x49104 ![0, 1] bcast_S1x49104_S8x49104_0_1 : (⟨S1x49104, .f32⟩ : BufTy).Contents (Elt F) → (⟨S8x49104, .f32⟩ : BufTy).Contents (Elt F)),
  StableHlo.binary main_v178 main_v180 main_v181 (Host.divf : (⟨S8x49104, .f32⟩ : BufTy).Contents (Elt F) → (⟨S8x49104, .f32⟩ : BufTy).Contents (Elt F) → (⟨S8x49104, .f32⟩ : BufTy).Contents (Elt F)),
  StableHlo.unary main_v134 main_v182 (broadcastInDim S1x49104 ![1] bcast_S49104_S1x49104_1 : (⟨S49104, .f32⟩ : BufTy).Contents (Elt F) → (⟨S1x49104, .f32⟩ : BufTy).Contents (Elt F)),
  StableHlo.unary main_v182 main_v183 (broadcastInDim S8x49104 ![0, 1] bcast_S1x49104_S8x49104_0_1 : (⟨S1x49104, .f32⟩ : BufTy).Contents (Elt F) → (⟨S8x49104, .f32⟩ : BufTy).Contents (Elt F)),
  StableHlo.binary main_v154 main_v183 main_v184 (Host.divf : (⟨S8x49104, .f32⟩ : BufTy).Contents (Elt F) → (⟨S8x49104, .f32⟩ : BufTy).Contents (Elt F) → (⟨S8x49104, .f32⟩ : BufTy).Contents (Elt F)),
  StableHlo.unary main_v184 main_v185 (Host.log : (⟨S8x49104, .f32⟩ : BufTy).Contents (Elt F) → (⟨S8x49104, .f32⟩ : BufTy).Contents (Elt F)),
  StableHlo.unary main_v139 main_v186 (broadcastInDim S1x49104 ![1] bcast_S49104_S1x49104_1 : (⟨S49104, .f32⟩ : BufTy).Contents (Elt F) → (⟨S1x49104, .f32⟩ : BufTy).Contents (Elt F)),
  StableHlo.unary main_v186 main_v187 (broadcastInDim S8x49104 ![0, 1] bcast_S1x49104_S8x49104_0_1 : (⟨S1x49104, .f32⟩ : BufTy).Contents (Elt F) → (⟨S8x49104, .f32⟩ : BufTy).Contents (Elt F)),
  StableHlo.binary main_v159 main_v187 main_v188 (Host.divf : (⟨S8x49104, .f32⟩ : BufTy).Contents (Elt F) → (⟨S8x49104, .f32⟩ : BufTy).Contents (Elt F) → (⟨S8x49104, .f32⟩ : BufTy).Contents (Elt F)),
  StableHlo.unary main_v188 main_v189 (Host.log : (⟨S8x49104, .f32⟩ : BufTy).Contents (Elt F) → (⟨S8x49104, .f32⟩ : BufTy).Contents (Elt F)),
  StableHlo.unary main_v175 main_v190 (broadcastInDim S8x49104x1 ![0, 1] bcast_S8x49104_S8x49104x1_0_1 : (⟨S8x49104, .f32⟩ : BufTy).Contents (Elt F) → (⟨S8x49104x1, .f32⟩ : BufTy).Contents (Elt F)),
  StableHlo.unary main_v181 main_v191 (broadcastInDim S8x49104x1 ![0, 1] bcast_S8x49104_S8x49104x1_0_1 : (⟨S8x49104, .f32⟩ : BufTy).Contents (Elt F) → (⟨S8x49104x1, .f32⟩ : BufTy).Contents (Elt F)),
  StableHlo.unary main_v185 main_v192 (broadcastInDim S8x49104x1 ![0, 1] bcast_S8x49104_S8x49104x1_0_1 : (⟨S8x49104, .f32⟩ : BufTy).Contents (Elt F) → (⟨S8x49104x1, .f32⟩ : BufTy).Contents (Elt F)),
  StableHlo.unary main_v189 main_v193 (broadcastInDim S8x49104x1 ![0, 1] bcast_S8x49104_S8x49104x1_0_1 : (⟨S8x49104, .f32⟩ : BufTy).Contents (Elt F) → (⟨S8x49104x1, .f32⟩ : BufTy).Contents (Elt F))]

/-- Operations: the smooth error. -/
def opsI : List (HloOp τ sig (Elt F)) := [
  StableHlo.nary ![main_v190, main_v191, main_v192, main_v193] main_v194 (fun u => (concatenate S8x49104x4 2 [⟨S8x49104x1, (u 0 : (⟨S8x49104x1, .f32⟩ : BufTy).Contents (Elt F))⟩, ⟨S8x49104x1, (u 1 : (⟨S8x49104x1, .f32⟩ : BufTy).Contents (Elt F))⟩, ⟨S8x49104x1, (u 2 : (⟨S8x49104x1, .f32⟩ : BufTy).Contents (Elt F))⟩, ⟨S8x49104x1, (u 3 : (⟨S8x49104x1, .f32⟩ : BufTy).Contents (Elt F))⟩] concatenates_S8x49104x1_S8x49104x1_S8x49104x1_S8x49104x1_S8x49104x4_d2 : (⟨S8x49104x4, .f32⟩ : BufTy).Contents (Elt F))),
  StableHlo.binary main_arg1 main_v194 main_v195 (subf : (⟨S8x49104x4, .f32⟩ : BufTy).Contents (Elt F) → (⟨S8x49104x4, .f32⟩ : BufTy).Contents (Elt F) → (⟨S8x49104x4, .f32⟩ : BufTy).Contents (Elt F)),
  StableHlo.unary main_v195 main_v196 (Host.absf : (⟨S8x49104x4, .f32⟩ : BufTy).Contents (Elt F) → (⟨S8x49104x4, .f32⟩ : BufTy).Contents (Elt F)),
  StableHlo.nullary main_cst_31 (constant S_ .f32 0x3DE38E39#32),
  StableHlo.unary main_cst_31 main_v197 (broadcastInDim S8x49104x4 ![] bcast_S_S8x49104x4 : (⟨S_, .f32⟩ : BufTy).Contents (Elt F) → (⟨S8x49104x4, .f32⟩ : BufTy).Contents (Elt F)),
  StableHlo.binary main_v196 main_v197 main_v198 (cmpf .olt : (⟨S8x49104x4, .f32⟩ : BufTy).Contents (Elt F) → (⟨S8x49104x4, .f32⟩ : BufTy).Contents (Elt F) → (⟨S8x49104x4, .i1⟩ : BufTy).Contents (Elt F)),
  StableHlo.nullary main_cst_32 (constant S_ .f32 0x3F000000#32),
  StableHlo.unary main_cst_32 main_v199 (broadcastInDim S8x49104x4 ![] bcast_S_S8x49104x4 : (⟨S_, .f32⟩ : BufTy).Contents (Elt F) → (⟨S8x49104x4, .f32⟩ : BufTy).Contents (Elt F)),
  StableHlo.binary main_v199 main_v196 main_v200 (mulf : (⟨S8x49104x4, .f32⟩ : BufTy).Contents (Elt F) → (⟨S8x49104x4, .f32⟩ : BufTy).Contents (Elt F) → (⟨S8x49104x4, .f32⟩ : BufTy).Contents (Elt F)),
  StableHlo.binary main_v200 main_v196 main_v201 (mulf : (⟨S8x49104x4, .f32⟩ : BufTy).Contents (Elt F) → (⟨S8x49104x4, .f32⟩ : BufTy).Contents (Elt F) → (⟨S8x49104x4, .f32⟩ : BufTy).Contents (Elt F)),
  StableHlo.nullary main_cst_33 (constant S_ .f32 0x3DE38E39#32),
  StableHlo.unary main_cst_33 main_v202 (broadcastInDim S8x49104x4 ![] bcast_S_S8x49104x4 : (⟨S_, .f32⟩ : BufTy).Contents (Elt F) → (⟨S8x49104x4, .f32⟩ : BufTy).Contents (Elt F)),
  StableHlo.binary main_v201 main_v202 main_v203 (Host.divf : (⟨S8x49104x4, .f32⟩ : BufTy).Contents (Elt F) → (⟨S8x49104x4, .f32⟩ : BufTy).Contents (Elt F) → (⟨S8x49104x4, .f32⟩ : BufTy).Contents (Elt F)),
  StableHlo.nullary main_cst_34 (constant S_ .f32 0x3D638E39#32),
  StableHlo.unary main_cst_34 main_v204 (broadcastInDim S8x49104x4 ![] bcast_S_S8x49104x4 : (⟨S_, .f32⟩ : BufTy).Contents (Elt F) → (⟨S8x49104x4, .f32⟩ : BufTy).Contents (Elt F)),
  StableHlo.binary main_v196 main_v204 main_v205 (subf : (⟨S8x49104x4, .f32⟩ : BufTy).Contents (Elt F) → (⟨S8x49104x4, .f32⟩ : BufTy).Contents (Elt F) → (⟨S8x49104x4, .f32⟩ : BufTy).Contents (Elt F)),
  StableHlo.TRef.ternary (.of main_v198 : TRef sig ⟨S8x49104x4, .i1⟩) (.of main_v203 : TRef sig ⟨S8x49104x4, .f32⟩) (.of main_v205 : TRef sig ⟨S8x49104x4, .f32⟩) (.of main_v206 : TRef sig ⟨S8x49104x4, .f32⟩) select]

/-- Operations: both results. -/
def opsJ : List (HloOp τ sig (Elt F)) := [
  StableHlo.unary main_v60 main_v207 (broadcastInDim S8x49104x1 ![0, 1] bcast_S8x49104_S8x49104x1_0_1 : (⟨S8x49104, .i1⟩ : BufTy).Contents (Elt F) → (⟨S8x49104x1, .i1⟩ : BufTy).Contents (Elt F)),
  StableHlo.unary main_v207 main_v208 (uitofp .f32 : (⟨S8x49104x1, .i1⟩ : BufTy).Contents (Elt F) → (⟨S8x49104x1, .f32⟩ : BufTy).Contents (Elt F)),
  StableHlo.unary main_v208 main_v209 (broadcastInDim S8x49104x4 ![0, 1, 2] bcast_S8x49104x1_S8x49104x4_0_1_2 : (⟨S8x49104x1, .f32⟩ : BufTy).Contents (Elt F) → (⟨S8x49104x4, .f32⟩ : BufTy).Contents (Elt F)),
  StableHlo.binary main_v206 main_v209 main_v210 (mulf : (⟨S8x49104x4, .f32⟩ : BufTy).Contents (Elt F) → (⟨S8x49104x4, .f32⟩ : BufTy).Contents (Elt F) → (⟨S8x49104x4, .f32⟩ : BufTy).Contents (Elt F)),
  StableHlo.nullary main_cst_35 (constant S_ .f32 0x00000000#32),
  StableHlo.binary main_v210 main_cst_35 main_v211 ((fun x v => Host.reduceAdd x v reducesTo_S8x49104x4_S8_d1_2 h_S_) : (⟨S8x49104x4, .f32⟩ : BufTy).Contents (Elt F) → (⟨S_, .f32⟩ : BufTy).Contents (Elt F) → (⟨S8, .f32⟩ : BufTy).Contents (Elt F)),
  StableHlo.nullary main_cst_36 (constant S_ .f32 0x40800000#32),
  StableHlo.unary main_cst_36 main_v212 (broadcastInDim S8 ![] bcast_S_S8 : (⟨S_, .f32⟩ : BufTy).Contents (Elt F) → (⟨S8, .f32⟩ : BufTy).Contents (Elt F)),
  StableHlo.binary main_v212 main_v75 main_v213 (mulf : (⟨S8, .f32⟩ : BufTy).Contents (Elt F) → (⟨S8, .f32⟩ : BufTy).Contents (Elt F) → (⟨S8, .f32⟩ : BufTy).Contents (Elt F)),
  StableHlo.nullary main_cst_37 (constant S_ .f32 0x3F800000#32),
  StableHlo.unary main_cst_37 main_v214 (broadcastInDim S8 ![] bcast_S_S8 : (⟨S_, .f32⟩ : BufTy).Contents (Elt F) → (⟨S8, .f32⟩ : BufTy).Contents (Elt F)),
  StableHlo.binary main_v213 main_v214 main_v215 (maximumf : (⟨S8, .f32⟩ : BufTy).Contents (Elt F) → (⟨S8, .f32⟩ : BufTy).Contents (Elt F) → (⟨S8, .f32⟩ : BufTy).Contents (Elt F)),
  StableHlo.binary main_v211 main_v215 main_v216 (Host.divf : (⟨S8, .f32⟩ : BufTy).Contents (Elt F) → (⟨S8, .f32⟩ : BufTy).Contents (Elt F) → (⟨S8, .f32⟩ : BufTy).Contents (Elt F)),
  StableHlo.nullary main_cst_38 (constant S_ .f32 0x00000000#32),
  StableHlo.binary main_v128 main_cst_38 main_v217 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
  StableHlo.nullary main_cst_39 (constant S_ .f32 0x41000000#32),
  StableHlo.binary main_v217 main_cst_39 main_v218 (Host.divf : (⟨S_, .f32⟩ : BufTy).Contents (Elt F) → (⟨S_, .f32⟩ : BufTy).Contents (Elt F) → (⟨S_, .f32⟩ : BufTy).Contents (Elt F)),
  StableHlo.nullary main_cst_40 (constant S_ .f32 0x00000000#32),
  StableHlo.binary main_v216 main_cst_40 main_v219 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
  StableHlo.nullary main_cst_41 (constant S_ .f32 0x41000000#32),
  StableHlo.binary main_v219 main_cst_41 main_v220 (Host.divf : (⟨S_, .f32⟩ : BufTy).Contents (Elt F) → (⟨S_, .f32⟩ : BufTy).Contents (Elt F) → (⟨S_, .f32⟩ : BufTy).Contents (Elt F))]

/-- All of them. -/
def allOps : List (HloOp τ sig (Elt F)) := opsA ++ (opsB ++ (opsC ++ (opsD ++ (opsE ++ (opsF ++ (opsG ++ (opsH ++ (opsI ++ opsJ))))))))

set_option maxHeartbeats 4000000 in
/-- The reference is that straight line. -/
theorem isSeq (d : Dev nD) : IsSeq (main (F := F) d) allOps := by
  hlo_seq

end Cert.ReferenceIdeal.Ops
end
-- ==== Proof.RefVal.lean ====
/- What each stretch of the reference's line of operations leaves in the buffers later stretches read, element by element. -/
module

public import proofs.«01_k».proof.Proof.RefOps
public import proofs.«01_k».proof.Proof.Pick
public import Idealize.ShloMosaic.Lib.StableHlo.ReadAt
public import Idealize.ShloMosaic.Lib.Pointwise
public import Idealize.ShloMosaic.PureOps.Ideal.Laws

@[expose] public section

set_option maxRecDepth 16384

noncomputable section

namespace Cert.ReferenceIdeal.Ops

open Idealize.ShloMosaic Idealize.ShloMosaic.StableHlo
open Cert.ReferenceIdeal Cert.ReferenceIdeal.Facts₀ Cert.ReferenceIdeal.Facts
open Cert.Spec

variable [Facts]

/-- The contents of the buffers. -/
abbrev Cont := Valuation τ sig (Elt Ideal)

variable (V : Cont) (i : Fin 8) (x : Fin 49104) (g : Fin 32) (c : Fin 80) (k : Fin 4)

/-! ## Overlaps -/

abbrev ancOf : Box := fun k => V (Proc.devRef .tc main_arg2) (ix2 x k)
abbrev boxOf : Fin 32 → Box := fun g k => V (Proc.devRef .tc main_arg4) (ix3 i g k)

theorem readA : after (opsA (F := Ideal)) V (Proc.devRef .tc main_v52) (ix3 i x g) = ious (ancOf V x) (boxOf V i) g := by
  unfold opsA
  after_reads_at
  have h0 : (id (constant (F := Ideal) S_ FTy.f32 0#32) ix0 : EReal) = 0 := Ideal.ofBits_zero_f32
  rw [h0]
  rfl

theorem readB53 : after (opsB (F := Ideal)) V (Proc.devRef .tc main_v53) (ix2 i x)
    = best fun g => V (Proc.devRef .tc main_v52) (ix3 i x g) := by
  unfold opsB
  after_reads_at
  rfl

theorem readB54 : after (opsB (F := Ideal)) V (Proc.devRef .tc main_v54) (ix2 i x)
    = BitVec.ofNat 32 (sel fun g => V (Proc.devRef .tc main_v52) (ix3 i x g)) := by
  unfold opsB
  after_reads_at
  exact argReduce_eq _ _ _ i x

/-! ## The label of the box an anchor overlaps most -/

theorem not_neg (s : Fin 32) : Scalar.select (IntOp.cmpi .slt (BitVec.ofNat 32 s.val) 0#32)
    (IntOp.addi (BitVec.ofNat 32 s.val) 32#32) (BitVec.ofNat 32 s.val) = BitVec.ofNat 32 s.val :=
  (by decide +kernel : ∀ s : Fin 32, Scalar.select (IntOp.cmpi .slt (BitVec.ofNat 32 s.val) 0#32)
    (IntOp.addi (BitVec.ofNat 32 s.val) 32#32) (BitVec.ofNat 32 s.val) = BitVec.ofNat 32 s.val) s

theorem in_range (s : Fin 32) : Finset.fold IntOp.andi (1#1) (fun _ : Fin 1 =>
    IntOp.andi (IntOp.cmpi .sge (BitVec.ofNat 32 s.val) 0#32) (IntOp.cmpi .sle (BitVec.ofNat 32 s.val) 31#32)) Finset.univ
      = 1#1 :=
  (by decide +kernel : ∀ s : Fin 32, Finset.fold IntOp.andi (1#1) (fun _ : Fin 1 =>
    IntOp.andi (IntOp.cmpi .sge (BitVec.ofNat 32 s.val) 0#32) (IntOp.cmpi .sle (BitVec.ofNat 32 s.val) 31#32)) Finset.univ
      = 1#1) s

theorem uitofp_bit (p : Prop) [Decidable p] :
    (FloatOps.uitofp (F := Ideal) FTy.f32 (BitVec.ofBool (decide p)) : EReal) = if p then 1 else 0 := by
  by_cases h : p <;> simp [h, FloatOps.uitofp]

theorem cmpi_eq_bit (a b : BitVec 32) : IntOp.cmpi .eq a b = BitVec.ofBool (decide (a = b)) := by
  by_cases h : a = b
  · simp [IntOp.cmpi, h]
  · simp [IntOp.cmpi, h, beq_eq_false_iff_ne.2 h]

theorem readC58 (s : Fin 32) (hs : V (Proc.devRef .tc main_v54) (ix2 i x) = BitVec.ofNat 32 s) :
    after (opsC (F := Ideal)) V (Proc.devRef .tc main_v58) (ix3 i x c)
      = BitVec.ofBool (decide (V (Proc.devRef .tc main_arg3) (ix2 i s) = BitVec.ofNat 32 c)) := by
  unfold opsC
  after_reads_at
  simp only [hs, not_neg]
  rw [in_range, gather_labels _ _ i x s (by pointwise; rw [hs]; exact not_neg s), cmpi_eq_bit, uitofp_bit]
  refine congrArg BitVec.ofBool (decide_eq_decide.2 ?_)
  show half < (if V (Proc.devRef .tc main_arg3) (ix2 i s) = BitVec.ofNat 32 c then (1 : EReal) else 0) ↔ _
  split_ifs with h
  · exact iff_of_true half_lt_one h
  · exact iff_of_false not_half_lt_zero h

/-! ## Targets and positives -/

theorem readD60 : after (opsD (F := Ideal)) V (Proc.devRef .tc main_v60) (ix2 i x)
    = BitVec.ofBool (decide (half ≤ V (Proc.devRef .tc main_v53) (ix2 i x))) := by
  unfold opsD
  after_reads_at

theorem bit_cases : ∀ b : BitVec 1, b = 0#1 ∨ b = 1#1 := by decide

open Classical in
theorem readD73 : after (opsD (F := Ideal)) V (Proc.devRef .tc main_v73) (ix3 i x c)
    = target (half ≤ V (Proc.devRef .tc main_v53) (ix2 i x)) (p4 ≤ V (Proc.devRef .tc main_v53) (ix2 i x))
        (V (Proc.devRef .tc main_v58) (ix3 i x c) = 1#1) := by
  unfold opsD
  after_reads_at
  unfold target
  generalize V (Proc.devRef .tc main_v58) (ix3 i x c) = b
  generalize (V (Proc.devRef .tc main_v53) (ix2 i x) : EReal) = m
  rcases bit_cases b with rfl | rfl <;> by_cases hp : half ≤ m <;> by_cases ht : p4 ≤ m <;>
    simp [hp, ht, IntOp.andi, Scalar.select, not_le.1, lt_of_not_ge]

theorem readD75 : after (opsD (F := Ideal)) V (Proc.devRef .tc main_v75) (ix1 i)
    = ∑ x, if half ≤ V (Proc.devRef .tc main_v53) (ix2 i x) then (1 : EReal) else 0 := by
  unfold opsD
  after_reads_at
  exact Finset.sum_congr rfl fun x _ => uitofp_bit _

/-! ## The class loss -/

open Classical in
theorem select_or {α : Type} (p q : Prop) [Decidable p] [Decidable q] (a b : α) :
    Scalar.select (IntOp.ori (IntOp.cmpi .ne (BitVec.ofBool (decide p)) 0#1)
      (IntOp.cmpi .ne (BitVec.ofBool (decide q)) 0#1)) a b = if p ∨ q then a else b := by
  by_cases hp : p <;> by_cases hq : q <;> simp [hp, hq, IntOp.ori, IntOp.cmpi, Scalar.select]

theorem readE : after (opsE (F := Ideal)) V (Proc.devRef .tc main_v124) (ix3 i x c)
    = focal (V (Proc.devRef .tc main_v73) (ix3 i x c)) (V (Proc.devRef .tc main_arg0) (ix3 i x c)) := by
  unfold opsE
  after_reads_at
  simp only [id_eq]
  pointwise
  rw [select_or, select_or]
  rfl

theorem readF : after (opsF (F := Ideal)) V (Proc.devRef .tc main_v128) (ix1 i)
    = Ideal.div (∑ x, ∑ c, V (Proc.devRef .tc main_v124) (ix3 i x c)) (max (V (Proc.devRef .tc main_v75) (ix1 i)) 1) := by
  unfold opsF
  after_reads_at

/-! ## The box loss -/

theorem readG (s : Fin 32) (hs : V (Proc.devRef .tc main_v54) (ix2 i x) = BitVec.ofNat 32 s) :
    after (opsG (F := Ideal)) V (Proc.devRef .tc main_v129) (ix3 i x k) = V (Proc.devRef .tc main_arg4) (ix3 i s k) := by
  unfold opsG
  after_reads_at
  simp only [hs, not_neg]
  rw [in_range, gather_boxes _ _ i x k s (by pointwise; rw [hs]; exact not_neg s)]
  rfl

abbrev regOf : Box := fun k => V (Proc.devRef .tc main_arg1) (ix3 i x k)
abbrev smOf : EReal := V (Proc.devRef .tc main_v206) (ix3 i x k)
abbrev posOf : BitVec 1 := V (Proc.devRef .tc main_v60) (ix2 i x)
abbrev gtOf : Box := fun k => V (Proc.devRef .tc main_v129) (ix3 i x k)

theorem readH : after (opsH (F := Ideal)) V (Proc.devRef .tc main_v190) (ix3 i x 0) = enc (ancOf V x) (gtOf V i x) 0
    ∧ after (opsH (F := Ideal)) V (Proc.devRef .tc main_v191) (ix3 i x 0) = enc (ancOf V x) (gtOf V i x) 1
    ∧ after (opsH (F := Ideal)) V (Proc.devRef .tc main_v192) (ix3 i x 0) = enc (ancOf V x) (gtOf V i x) 2
    ∧ after (opsH (F := Ideal)) V (Proc.devRef .tc main_v193) (ix3 i x 0) = enc (ancOf V x) (gtOf V i x) 3 := by
  and_intros <;> (unfold opsH; after_reads_at; rfl)

theorem readI (E : Box) (h0 : V (Proc.devRef .tc main_v190) (ix3 i x 0) = E 0)
    (h1 : V (Proc.devRef .tc main_v191) (ix3 i x 0) = E 1) (h2 : V (Proc.devRef .tc main_v192) (ix3 i x 0) = E 2)
    (h3 : V (Proc.devRef .tc main_v193) (ix3 i x 0) = E 3) :
    after (opsI (F := Ideal)) V (Proc.devRef .tc main_v206) (ix3 i x k)
      = smooth (regOf V i x k - E k) := by
  unfold opsI
  after_reads_at
  have up : ∀ (ops : List (HloOp τ sig (Elt Ideal))) (b : DevRef τ sig), upto ops V 0 b = V b := fun _ _ => rfl
  simp only [up]
  fin_cases k
  · simp [h0]; rfl
  · simp [h1]; rfl
  · simp [h2]; rfl
  · simp [h3]; rfl

/-! ## The two results -/

theorem readJ218 : after (opsJ (F := Ideal)) V (Proc.devRef .tc main_v218) ix0
    = Ideal.div (∑ i, V (Proc.devRef .tc main_v128) (ix1 i)) eight := by
  unfold opsJ
  after_reads_at

theorem readJ220 : after (opsJ (F := Ideal)) V (Proc.devRef .tc main_v220) ix0
    = Ideal.div (∑ i, Ideal.div (∑ x, ∑ k, smOf V i x k * (FloatOps.uitofp (F := Ideal) FTy.f32 (posOf V i x) : EReal))
      (max (four * V (Proc.devRef .tc main_v75) (ix1 i)) 1)) eight := by
  unfold opsJ
  after_reads_at

end Cert.ReferenceIdeal.Ops
-- ==== Proof.RefValue.lean ====
/- The two results the reference's line of operations leaves, as the losses of its arguments. -/
module

public import proofs.«01_k».proof.Proof.RefVal

@[expose] public section

set_option maxRecDepth 16384

noncomputable section

namespace Cert.ReferenceIdeal.Ops

open Idealize.ShloMosaic Idealize.ShloMosaic.StableHlo
open Cert.ReferenceIdeal Cert.ReferenceIdeal.Facts₀ Cert.ReferenceIdeal.Facts
open Cert.Spec

variable [Facts]

/-! ## What each stretch leaves alone -/

/-- A line leaves these buffers as they were. -/
def Keeps (ops : List (HloOp τ sig (Elt Ideal))) (rs : List (Ref sig .tc)) : Prop :=
  ∀ V : Cont, ∀ r ∈ rs, after ops V (Proc.devRef .tc r) = V (Proc.devRef .tc r)

abbrev args : List (Ref sig .tc) := [main_arg0, main_arg1, main_arg2, main_arg3, main_arg4]

theorem keepA : Keeps opsA args := by
  intro V; simp only [List.forall_mem_cons]; and_intros <;>
    first | exact fun _ h => absurd h List.not_mem_nil | (unfold opsA; after_reads_at)
theorem keepB : Keeps opsB args := by
  intro V; simp only [List.forall_mem_cons]; and_intros <;>
    first | exact fun _ h => absurd h List.not_mem_nil | (unfold opsB; after_reads_at)
theorem keepC : Keeps opsC (main_v53 :: main_v54 :: args) := by
  intro V; simp only [List.forall_mem_cons]; and_intros <;>
    first | exact fun _ h => absurd h List.not_mem_nil | (unfold opsC; after_reads_at)
theorem keepD : Keeps opsD (main_v54 :: args) := by
  intro V; simp only [List.forall_mem_cons]; and_intros <;>
    first | exact fun _ h => absurd h List.not_mem_nil | (unfold opsD; after_reads_at)
theorem keepE : Keeps opsE (main_v54 :: main_v60 :: main_v75 :: args) := by
  intro V; simp only [List.forall_mem_cons]; and_intros <;>
    first | exact fun _ h => absurd h List.not_mem_nil | (unfold opsE; after_reads_at)
theorem keepF : Keeps opsF (main_v54 :: main_v60 :: main_v75 :: args) := by
  intro V; simp only [List.forall_mem_cons]; and_intros <;>
    first | exact fun _ h => absurd h List.not_mem_nil | (unfold opsF; after_reads_at)
theorem keepG : Keeps opsG (main_v60 :: main_v75 :: main_v128 :: args) := by
  intro V; simp only [List.forall_mem_cons]; and_intros <;>
    first | exact fun _ h => absurd h List.not_mem_nil | (unfold opsG; after_reads_at)
theorem keepH : Keeps opsH (main_v60 :: main_v75 :: main_v128 :: args) := by
  intro V; simp only [List.forall_mem_cons]; and_intros <;>
    first | exact fun _ h => absurd h List.not_mem_nil | (unfold opsH; after_reads_at)
theorem keepI : Keeps opsI (main_v60 :: main_v75 :: main_v128 :: args) := by
  intro V; simp only [List.forall_mem_cons]; and_intros <;>
    first | exact fun _ h => absurd h List.not_mem_nil | (unfold opsI; after_reads_at)

theorem div_congr {a b c : EReal} (h : a = b) : Ideal.div a c = Ideal.div b c := by rw [h]

theorem scaled_sum (p : Prop) [Decidable p] {f g : Fin 4 → EReal} (h : ∀ k, f k = g k) :
    ∑ k, f k * (if p then 1 else 0) = (if p then 1 else 0) * ∑ k, g k := by
  rw [funext h]; split_ifs <;> simp

/-! ## The contents between the stretches -/

variable (V : Cont)

def atA : Cont := after opsA V
def atB : Cont := after opsB (atA V)
def atC : Cont := after opsC (atB V)
def atD : Cont := after opsD (atC V)
def atE : Cont := after opsE (atD V)
def atF : Cont := after opsF (atE V)
def atG : Cont := after opsG (atF V)
def atH : Cont := after opsH (atG V)
def atI : Cont := after opsI (atH V)
def atJ : Cont := after opsJ (atI V)

theorem atJ_eq : after (allOps (F := Ideal)) V = atJ V := by
  unfold allOps atJ atI atH atG atF atE atD atC atB atA
  simp only [after_append]

theorem argB (r : Ref sig .tc) (h : r ∈ args) : atB V (Proc.devRef .tc r) = V (Proc.devRef .tc r) :=
  (keepB _ r h).trans (keepA _ r h)
theorem argD (r : Ref sig .tc) (h : r ∈ args) : atD V (Proc.devRef .tc r) = V (Proc.devRef .tc r) :=
  (keepD _ r (List.mem_cons_of_mem _ h)).trans
    ((keepC _ r (List.mem_cons_of_mem _ (List.mem_cons_of_mem _ h))).trans (argB V r h))
theorem argF (r : Ref sig .tc) (h : r ∈ args) : atF V (Proc.devRef .tc r) = V (Proc.devRef .tc r) :=
  have h3 := List.mem_cons_of_mem main_v54 (List.mem_cons_of_mem main_v60 (List.mem_cons_of_mem main_v75 h))
  (keepF _ r h3).trans ((keepE _ r h3).trans (argD V r h))
theorem argG (r : Ref sig .tc) (h : r ∈ args) : atG V (Proc.devRef .tc r) = V (Proc.devRef .tc r) :=
  (keepG _ r (List.mem_cons_of_mem _ (List.mem_cons_of_mem _ (List.mem_cons_of_mem _ h)))).trans (argF V r h)
theorem argH (r : Ref sig .tc) (h : r ∈ args) : atH V (Proc.devRef .tc r) = V (Proc.devRef .tc r) :=
  (keepH _ r (List.mem_cons_of_mem _ (List.mem_cons_of_mem _ (List.mem_cons_of_mem _ h)))).trans (argG V r h)

/-- The labels and the scores. -/
abbrev labOf (i : Fin 8) : Fin 32 → BitVec 32 := fun g => V (Proc.devRef .tc main_arg3) (ix2 i g)
abbrev clsOf (i : Fin 8) : Fin 49104 → Fin 80 → EReal := fun x c => V (Proc.devRef .tc main_arg0) (ix3 i x c)

variable (i : Fin 8) (x : Fin 49104)

theorem ovl : (fun g => atA V (Proc.devRef .tc main_v52) (ix3 i x g)) = ious (ancOf V x) (boxOf V i) :=
  funext fun g => readA V i x g

theorem v53B : atB V (Proc.devRef .tc main_v53) (ix2 i x) = best (ious (ancOf V x) (boxOf V i)) :=
  (readB53 _ i x).trans (congrArg best (ovl V i x))

theorem v53C : atC V (Proc.devRef .tc main_v53) (ix2 i x) = best (ious (ancOf V x) (boxOf V i)) :=
  (congrFun (keepC _ main_v53 (by simp)) _).trans (v53B V i x)

theorem v54B : atB V (Proc.devRef .tc main_v54) (ix2 i x) = BitVec.ofNat 32 (sel (ious (ancOf V x) (boxOf V i))) :=
  (readB54 _ i x).trans (congrArg (fun f => BitVec.ofNat 32 (sel f).val) (ovl V i x))

theorem v54F : atF V (Proc.devRef .tc main_v54) (ix2 i x) = BitVec.ofNat 32 (sel (ious (ancOf V x) (boxOf V i))) := by
  have h : atF V (Proc.devRef .tc main_v54) = atB V (Proc.devRef .tc main_v54) :=
    (keepF _ _ (by simp)).trans ((keepE _ _ (by simp)).trans ((keepD _ _ (by simp)).trans (keepC _ _ (by simp))))
  rw [h]; exact v54B V i x

theorem bit_false : ¬ BitVec.ofBool false = 1#1 := by decide

open Classical in
theorem v58C (c : Fin 80) : (atC V (Proc.devRef .tc main_v58) (ix3 i x c) = 1#1)
    = (lab (ancOf V x) (boxOf V i) (labOf V i) = BitVec.ofNat 32 c) := by
  have h := readC58 (atB V) i x c _ (v54B V i x)
  rw [argB V main_arg3 (by simp)] at h
  unfold atC
  rw [h]
  refine propext ?_
  by_cases hc : V (Proc.devRef .tc main_arg3) (ix2 i (sel (ious (ancOf V x) (boxOf V i)))) = BitVec.ofNat 32 c
  · exact iff_of_true (by rw [decide_eq_true hc]; rfl) hc
  · exact iff_of_false (by rw [decide_eq_false hc]; exact bit_false) hc

theorem v60D : atD V (Proc.devRef .tc main_v60) (ix2 i x)
    = BitVec.ofBool (decide (half ≤ best (ious (ancOf V x) (boxOf V i)))) := by
  refine (readD60 _ i x).trans ?_
  rw [v53C V i x]

theorem v75D : atD V (Proc.devRef .tc main_v75) (ix1 i) = cntSum (ancOf V) (boxOf V i) := by
  refine (readD75 _ i).trans ?_
  show @Eq EReal _ _
  refine Finset.sum_congr rfl fun x _ => ?_
  rw [v53C V i x, cntAt]

/-- The class loss of one score. -/
theorem v124E (hC : ∀ c, ∃ r : ℝ, clsOf V i x c = r ∧ r < 1) (c : Fin 80) :
    atE V (Proc.devRef .tc main_v124) (ix3 i x c)
      = term (half ≤ best (ious (ancOf V x) (boxOf V i))) (p4 ≤ best (ious (ancOf V x) (boxOf V i)))
          (lab (ancOf V x) (boxOf V i) (labOf V i) = BitVec.ofNat 32 c) (clsOf V i x c) := by
  refine (readE _ i x c).trans ?_
  have h73 := readD73 (atC V) i x c
  rw [v58C V i x c, v53C V i x] at h73
  unfold atD at *
  rw [h73, show after opsD (atC V) (Proc.devRef .tc main_arg0) = V (Proc.devRef .tc main_arg0) from argD V main_arg0 (by simp)]
  exact focal_target (fun h => p4_lt_half.le.trans h) (hC c)

theorem v128F (hC : ∀ x c, ∃ r : ℝ, clsOf V i x c = r ∧ r < 1) :
    atF V (Proc.devRef .tc main_v128) (ix1 i) = clsImg (ancOf V) (boxOf V i) (labOf V i) (clsOf V i) := by
  refine (readF _ i).trans ?_
  have h75 : atE V (Proc.devRef .tc main_v75) (ix1 i) = cntSum (ancOf V) (boxOf V i) :=
    (congrFun (keepE _ main_v75 (by simp)) _).trans (v75D V i)
  rw [h75, clsImg, clsSum]
  show @Eq EReal _ _
  refine div_congr ?_
  exact Finset.sum_congr rfl fun x _ => Finset.sum_congr rfl fun c _ => v124E V i x (hC x) c

theorem v206I (k : Fin 4) : smOf (atI V) i x k
    = smooth (regOf V i x k - enc (ancOf V x) (boxOf V i (sel (ious (ancOf V x) (boxOf V i)))) k) := by
  have hg : gtOf (atG V) i x = boxOf V i (sel (ious (ancOf V x) (boxOf V i))) := funext fun k => by
    refine (readG _ i x k _ (v54F V i x)).trans ?_
    rw [argF V main_arg4 (by simp)]
  have ha : ancOf (atG V) x = ancOf V x := funext fun k => congrFun (argG V main_arg2 (by simp)) _
  have hr : regOf (atH V) i x = regOf V i x := funext fun k => congrFun (argH V main_arg1 (by simp)) _
  obtain ⟨h0, h1, h2, h3⟩ := readH (atG V) i x
  rw [hg, ha] at h0 h1 h2 h3
  refine (readI (atH V) i x k _ h0 h1 h2 h3).trans ?_
  rw [hr]

theorem laterI (r : Ref sig .tc) (h : r ∈ [main_v60, main_v75]) : atI V (Proc.devRef .tc r) = atD V (Proc.devRef .tc r) := by
  have h1 : r ∈ main_v60 :: main_v75 :: main_v128 :: args := by
    simp only [List.mem_cons, List.not_mem_nil, or_false] at h ⊢; tauto
  have h2 : r ∈ main_v54 :: main_v60 :: main_v75 :: args := by
    simp only [List.mem_cons, List.not_mem_nil, or_false] at h ⊢; tauto
  exact (keepI _ r h1).trans ((keepH _ r h1).trans ((keepG _ r h1).trans ((keepF _ r h2).trans (keepE _ r h2))))

theorem v128I : atI V (Proc.devRef .tc main_v128) = atF V (Proc.devRef .tc main_v128) :=
  (keepI _ _ (by simp)).trans ((keepH _ _ (by simp)).trans (keepG _ _ (by simp)))

/-- The first result is the class loss. -/
theorem cls_value (hC : ∀ i x c, ∃ r : ℝ, clsOf V i x c = r ∧ r < 1) :
    after (allOps (F := Ideal)) V (Proc.devRef .tc main_v218) ix0
      = clsLoss (ancOf V) (boxOf V) (labOf V) (clsOf V) := by
  rw [atJ_eq]
  refine (readJ218 _).trans ?_
  rw [clsLoss, v128I]
  show @Eq EReal _ _
  refine div_congr ?_
  exact Finset.sum_congr rfl fun i _ => v128F V i (hC i)

/-- The second result is the box loss. -/
theorem reg_value : after (allOps (F := Ideal)) V (Proc.devRef .tc main_v220) ix0
      = regLoss (ancOf V) (boxOf V) (regOf V) := by
  rw [atJ_eq]
  refine (readJ220 _).trans ?_
  rw [regLoss]
  show @Eq EReal _ _
  refine div_congr ?_
  refine Finset.sum_congr rfl fun i _ => ?_
  have h75 : atI V (Proc.devRef .tc main_v75) (ix1 i) = cntSum (ancOf V) (boxOf V i) :=
    (congrFun (laterI V main_v75 (by simp)) _).trans (v75D V i)
  rw [h75, regImg, regSum]
  show @Eq EReal _ _
  refine div_congr ?_
  refine Finset.sum_congr rfl fun x _ => ?_
  have h60 : posOf (atI V) i x = BitVec.ofBool (decide (half ≤ best (ious (ancOf V x) (boxOf V i)))) :=
    (congrFun (laterI V main_v60 (by simp)) _).trans (v60D V i x)
  rw [h60, uitofp_bit, regAt, cntAt]
  exact scaled_sum _ (v206I V i x)

end Cert.ReferenceIdeal.Ops
-- ==== Proof.Pre.lean ====
/- What the precondition says of the arguments: every score is a number below one, every label is a class. -/
module

public import proofs.«01_k».proof.Pre_inputs_ok
public import Idealize.ShloMosaic.Lib.ReduceAll
public import Idealize.ShloMosaic.Lib.Pointwise
public import Idealize.ShloMosaic.PureOps.Ideal.Laws

public section

namespace Cert.Pre_inputs_ok

open Idealize.ShloMosaic

variable [Facts]

theorem and_one (a b : BitVec 1) (h : IntOp.andi a b = 1#1) : a = 1#1 ∧ b = 1#1 := by
  revert a b; decide

theorem part3_one (v4 : IVec S8x49104x80 1) (v9 : IVec S8x32 1) (v62 v65 : FVec Ideal S8x49104x32 .f32)
    (h : fn_part3 (F := Ideal) v4 v9 v62 v65 = fun _ => 1#1) : (∀ i, v4 i = 1#1) ∧ ∀ i, v9 i = 1#1 := by
  have h0 := congrFun h ix0
  dsimp only [fn_part3] at h0
  have h1 := (and_one _ _ (and_one _ _ h0).1)
  exact ⟨Host.reduce_andi_all _ _ _ _ _ h1.1, Host.reduce_andi_all _ _ _ _ _ h1.2⟩

theorem of_bit {p : Prop} [Decidable p] (h : BitVec.ofBool (decide p) = 1#1) : p := by
  by_contra hp
  rw [decide_eq_false hp] at h
  exact absurd h (by decide)

theorem num_of (v : EReal) (h1 : Ideal.ofBits FTy.f32 4286578688#32 < v) (h2 : v < 1) : ∃ r : ℝ, v = (r : EReal) ∧ r < 1 := by
  have hb : v ≠ ⊥ := fun e => not_lt_bot (e ▸ h1)
  have ht : v ≠ ⊤ := fun e => not_top_lt (e ▸ h2)
  refine ⟨v.toReal, (EReal.coe_toReal ht hb).symm, ?_⟩
  rw [← EReal.coe_toReal ht hb] at h2
  exact_mod_cast h2

variable (x0 : FVec Ideal S8x49104x80 .f32) (x1 : FVec Ideal S8x49104x4 .f32) (x2 : FVec Ideal S49104x4 .f32)
  (x3 : IVec S8x32 32) (x4 : FVec Ideal S8x32x4 .f32)

theorem fn_one (h : fn (F := Ideal) x0 x1 x2 x3 x4 = fun _ => 1#1) :
    (∀ i x c, ∃ r : ℝ, x0 (ix3 i x c) = (r : EReal) ∧ r < 1) ∧ ∀ i g, ∃ l : Fin 80, x3 (ix2 i g) = BitVec.ofNat 32 l.val := by
  dsimp only [fn, fn_part1, fn_part2] at h
  obtain ⟨hs, hn⟩ := part3_one _ _ _ _ h
  refine ⟨fun i x c => ?_, fun i g => ?_⟩
  · have h1 := and_one _ _ (hs (ix3 i x c))
    revert h1
    pointwise
    generalize x0 (ix3 i x c) = v
    intro h1
    exact num_of v (of_bit h1.1) (of_bit h1.2)
  · have h1 := and_one _ _ (hn (ix2 i g))
    revert h1
    pointwise
    generalize x3 (ix2 i g) = v
    intro h1
    have h2 := IntOp.cmpi_sge.1 h1.1
    have h3 := IntOp.cmpi_slt.1 h1.2
    have e0 : (0#32 : BitVec 32).toInt = 0 := by decide
    have e8 : (80#32 : BitVec 32).toInt = 80 := by decide
    rw [e0] at h2
    rw [e8] at h3
    have h4 : v.toNat < 80 := by
      rw [BitVec.toInt_eq_toNat_cond] at h2 h3
      have := v.isLt
      split_ifs at h2 h3 <;> omega
    exact ⟨⟨v.toNat, h4⟩, (BitVec.eq_of_toNat_eq (by rw [BitVec.toNat_ofNat]; exact (Nat.mod_eq_of_lt v.isLt).symm))⟩

end Cert.Pre_inputs_ok
-- ==== Proof.Value.lean ====
/-
  THE VALUES: from equal arguments both programs end with the two losses of `Spec`, their arguments unchanged.
-/
module

public import proofs.«01_k».proof.Defs
public import proofs.«01_k».proof.Proof.Result
public import proofs.«01_k».proof.Proof.RefValue
public import proofs.«01_k».proof.Proof.Pre
public import proofs.«01_k».proof.Proof.RefFrame
public import proofs.«01_k».proof.Proof.Gen.Pre_inputs_ok

public section

set_option maxRecDepth 16384

namespace Cert.Value

open Idealize.ShloMosaic Idealize.ShloMosaic.StableHlo Idealize.SL.Sem

abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

/-- The precondition is what the sums need of the arguments. -/
theorem good (m : MemK) (h : Cert.Pre_KernelIdeal m) (d : Dev Cert.KernelIdeal.nD) : Cert.KernelIdeal.Body.Good m d := by
  obtain ⟨hs, hn⟩ := Cert.Pre_inputs_ok.fn_one _ _ _ _ _ (h d)
  exact ⟨hn, hs⟩

section Reference
open Cert.ReferenceIdeal

variable (m' : MemR) (ρ : Dev nD → PrngReg) (d : Dev nD)

/-- The reference's run: every buffer ends as its operations leave it. -/
theorem run_ref : θ_run (defs (F := Ideal)) (onTc (τ := τ) (main (F := Ideal))) ⟨m', fun _ => 0, ρ⟩ fun r =>
    ∀ (d : Dev nD) (b : Ref sig .tc), r.2.mem ((d.tc : Thread nD τ).loc b) = after (Ops.allOps (F := Ideal)) (launchContents m' d) (Proc.devRef .tc b) :=
  run_hlo _ _ Ops.isSeq (by decide) (by decide)
    (by simp [Ops.allOps, Ops.opsA, Ops.opsB, Ops.opsC, Ops.opsD, Ops.opsE, Ops.opsF, Ops.opsG, Ops.opsH, Ops.opsI, Ops.opsJ])
    (by
      intro _ h
      simp only [Ops.allOps, Ops.opsA, Ops.opsB, Ops.opsC, Ops.opsD, Ops.opsE, Ops.opsF, Ops.opsG, Ops.opsH, Ops.opsI, Ops.opsJ,
        List.cons_append, List.nil_append] at h
      (repeat (cases h with | head => rfl | tail _ h => ?_))
      exact nomatch h) m' ρ

end Reference

/-- A scalar array is its one entry. -/
theorem scalar {f : Cert.ReferenceIdeal.S_.Idx → EReal} {a : EReal} (h : f ix0 = a) : f = fun _ => a :=
  funext fun i => (congrArg f (funext fun b => b.elim0)).trans h

theorem algebraic : Cert.algebraic_KernelIdeal_ReferenceIdeal := by
  intro m g m' g' hpre hargs
  have hg := good m hpre
  refine ⟨fun c => fun _ => Spec.clsLoss (Cert.KernelIdeal.Body.ancOf m c) (Cert.KernelIdeal.Body.boxOf m c) (Cert.KernelIdeal.Body.labOf m c) (Cert.KernelIdeal.Body.clsOf m c),
    fun c => fun _ => Spec.regLoss (Cert.KernelIdeal.Body.ancOf m c) (Cert.KernelIdeal.Body.boxOf m c) (Cert.KernelIdeal.Body.regOf m c),
    Cert.KernelIdeal.Body.run_value m g hg, ?_⟩
  refine (θ_run _ _ _).mono (fun r hr c => ?_) (θ_run_and (run_ref m' g') (Cert.ReferenceIdeal.Run.frame m' g' trivial))
  obtain ⟨hv, hf, -⟩ := hr
  obtain ⟨a0, a1, a2, a3, a4⟩ := hargs c
  have e0 : Cert.ReferenceIdeal.Ops.clsOf (launchContents m' c) = Cert.KernelIdeal.Body.clsOf m c :=
    funext fun i => funext fun x => funext fun k => congrFun a0 (ix3 i x k)
  have e1 : Cert.ReferenceIdeal.Ops.regOf (launchContents m' c) = Cert.KernelIdeal.Body.regOf m c :=
    funext fun i => funext fun x => funext fun k => congrFun a1 (ix3 i x k)
  have e2 : Cert.ReferenceIdeal.Ops.ancOf (launchContents m' c) = Cert.KernelIdeal.Body.ancOf m c :=
    funext fun x => funext fun k => congrFun a2 (ix2 x k)
  have e3 : Cert.ReferenceIdeal.Ops.labOf (launchContents m' c) = Cert.KernelIdeal.Body.labOf m c :=
    funext fun i => funext fun g => congrFun a3 (ix2 i g)
  have e4 : Cert.ReferenceIdeal.Ops.boxOf (launchContents m' c) = Cert.KernelIdeal.Body.boxOf m c :=
    funext fun i => funext fun g => funext fun k => congrFun a4 (ix3 i g k)
  refine ⟨(hv c _).trans (scalar ?_), (hv c _).trans (scalar ?_), hf c⟩
  · rw [Cert.ReferenceIdeal.Ops.cls_value _ fun i x k => by rw [e0]; exact (hg c).cls i x k, e0, e2, e3, e4]
  · rw [Cert.ReferenceIdeal.Ops.reg_value, e1, e2, e4]

end Cert.Value
-- ==== Proof.lean ====
/-
  THE CERTIFICATE'S CLAIM, assembled: each conjunct is a theorem of a module under `Proof/`.
-/
module

public import proofs.«01_k».proof.Defs
public import proofs.«01_k».proof.Proof.Gen.Kernel
public import proofs.«01_k».proof.Proof.Gen.Kernel.Frame
public import proofs.«01_k».proof.Proof.Gen.Kernel.Skeleton
public import proofs.«01_k».proof.Proof.Gen.KernelIdeal
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.Pre_inputs_ok
public import proofs.«01_k».proof.Proof.Run
public import proofs.«01_k».proof.Proof.Same
public import proofs.«01_k».proof.Proof.RefFrame
public import proofs.«01_k».proof.Proof.Value

public section

namespace Cert.Proof

theorem claim : Cert.Claim :=
  ⟨Cert.Kernel.Gen.facts, Cert.KernelIdeal.Gen.facts, Cert.ReferenceIdeal.Gen.facts, Cert.Pre_inputs_ok.Gen.facts,
    Cert.Same.frame, fun m ρ _ => Cert.Same.frame m ρ trivial, fun m ρ _ => Cert.KernelIdeal.Body.frame m ρ,
    Cert.ReferenceIdeal.Run.frame, fun m ρ _ => Cert.ReferenceIdeal.Run.frame m ρ trivial, trivial, Cert.Value.algebraic⟩

end Cert.Proof
